-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_QPrep (m : (ℓ : Loc Cert.QPrep.nD Cert.QPrep.τ Cert.QPrep.sig) → Buf (Elt Bits) ℓ) : Prop :=
  True

def Pre_QPrepIdeal (m : (ℓ : Loc Cert.QPrepIdeal.nD Cert.QPrepIdeal.τ Cert.QPrepIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_KvPrep (m : (ℓ : Loc Cert.KvPrep.nD Cert.KvPrep.τ Cert.KvPrep.sig) → Buf (Elt Bits) ℓ) : Prop :=
  True

def Pre_KvPrepIdeal (m : (ℓ : Loc Cert.KvPrepIdeal.nD Cert.KvPrepIdeal.τ Cert.KvPrepIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_QPrep [hQPrep : Cert.QPrep.Facts] : Prop :=
  ∀ (m : (ℓ : Loc Cert.QPrep.nD Cert.QPrep.τ Cert.QPrep.sig) → Buf (Elt Bits) ℓ) (g : Dev Cert.QPrep.nD → PrngReg), Pre_QPrep m →
    θ_run (Cert.QPrep.defs (F := Bits)) (onTc (τ := Cert.QPrep.τ) (Cert.QPrep.main (F := Bits))) ⟨m, fun _ => 0, g⟩ (fun r => (∀ c : Dev Cert.QPrep.nD,
      r.2.mem ((c.tc : Thread Cert.QPrep.nD Cert.QPrep.τ).loc Cert.QPrep.main_arg0) = m ((c.tc : Thread Cert.QPrep.nD Cert.QPrep.τ).loc Cert.QPrep.main_arg0)
      ∧ r.2.mem ((c.tc : Thread Cert.QPrep.nD Cert.QPrep.τ).loc Cert.QPrep.main_arg1) = m ((c.tc : Thread Cert.QPrep.nD Cert.QPrep.τ).loc Cert.QPrep.main_arg1))
      ∧ r.2.sem = fun _ => 0)

def quiescent_QPrepIdeal [hQPrepIdeal : Cert.QPrepIdeal.Facts] : Prop :=
  ∀ (m : (ℓ : Loc Cert.QPrepIdeal.nD Cert.QPrepIdeal.τ Cert.QPrepIdeal.sig) → Buf (Elt Ideal) ℓ) (g : Dev Cert.QPrepIdeal.nD → PrngReg), Pre_QPrepIdeal m →
    θ_run (Cert.QPrepIdeal.defs (F := Ideal)) (onTc (τ := Cert.QPrepIdeal.τ) (Cert.QPrepIdeal.main (F := Ideal))) ⟨m, fun _ => 0, g⟩ (fun r => (∀ c : Dev Cert.QPrepIdeal.nD,
      r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
      ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_KvPrep [hKvPrep : Cert.KvPrep.Facts] : Prop :=
  ∀ (m : (ℓ : Loc Cert.KvPrep.nD Cert.KvPrep.τ Cert.KvPrep.sig) → Buf (Elt Bits) ℓ) (g : Dev Cert.KvPrep.nD → PrngReg), Pre_KvPrep m →
    θ_run (Cert.KvPrep.defs (F := Bits)) (onTc (τ := Cert.KvPrep.τ) (Cert.KvPrep.main (F := Bits))) ⟨m, fun _ => 0, g⟩ (fun r => (∀ c : Dev Cert.KvPrep.nD,
      r.2.mem ((c.tc : Thread Cert.KvPrep.nD Cert.KvPrep.τ).loc Cert.KvPrep.main_arg0) = m ((c.tc : Thread Cert.KvPrep.nD Cert.KvPrep.τ).loc Cert.KvPrep.main_arg0)
      ∧ r.2.mem ((c.tc : Thread Cert.KvPrep.nD Cert.KvPrep.τ).loc Cert.KvPrep.main_arg1) = m ((c.tc : Thread Cert.KvPrep.nD Cert.KvPrep.τ).loc Cert.KvPrep.main_arg1)
      ∧ r.2.mem ((c.tc : Thread Cert.KvPrep.nD Cert.KvPrep.τ).loc Cert.KvPrep.main_arg2) = m ((c.tc : Thread Cert.KvPrep.nD Cert.KvPrep.τ).loc Cert.KvPrep.main_arg2)
      ∧ r.2.mem ((c.tc : Thread Cert.KvPrep.nD Cert.KvPrep.τ).loc Cert.KvPrep.main_arg3) = m ((c.tc : Thread Cert.KvPrep.nD Cert.KvPrep.τ).loc Cert.KvPrep.main_arg3))
      ∧ r.2.sem = fun _ => 0)

def quiescent_KvPrepIdeal [hKvPrepIdeal : Cert.KvPrepIdeal.Facts] : Prop :=
  ∀ (m : (ℓ : Loc Cert.KvPrepIdeal.nD Cert.KvPrepIdeal.τ Cert.KvPrepIdeal.sig) → Buf (Elt Ideal) ℓ) (g : Dev Cert.KvPrepIdeal.nD → PrngReg), Pre_KvPrepIdeal m →
    θ_run (Cert.KvPrepIdeal.defs (F := Ideal)) (onTc (τ := Cert.KvPrepIdeal.τ) (Cert.KvPrepIdeal.main (F := Ideal))) ⟨m, fun _ => 0, g⟩ (fun r => (∀ c : Dev Cert.KvPrepIdeal.nD,
      r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
      ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
      ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2)
      ∧ r.2.mem ((c.tc : Thread Cert.KvPrepIdeal.nD Cert.KvPrepIdeal.τ).loc Cert.KvPrepIdeal.main_arg3) = m ((c.tc : Thread Cert.KvPrepIdeal.nD Cert.KvPrepIdeal.τ).loc Cert.KvPrepIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "masked" .f32 0xFF61B1E6#32 ⊥

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_QPrep_QPrepIdeal : Prop :=
  True

def algebraic_QPrepIdeal_QRefIdeal [hQPrepIdeal : Cert.QPrepIdeal.Facts] [hQRefIdeal : Cert.QRefIdeal.Facts] : Prop :=
  ∀ (m : (ℓ : Loc Cert.QPrepIdeal.nD Cert.QPrepIdeal.τ Cert.QPrepIdeal.sig) → Buf (Elt Ideal) ℓ) (g : Dev Cert.QPrepIdeal.nD → PrngReg)
    (m' : (ℓ : Loc Cert.QRefIdeal.nD Cert.QRefIdeal.τ Cert.QRefIdeal.sig) → Buf (Elt Ideal) ℓ) (g' : Dev Cert.QRefIdeal.nD → PrngReg), Pre_QPrepIdeal m →
    (∀ c : Dev Cert.QPrepIdeal.nD,
      m' ((c.tc : Thread Cert.QRefIdeal.nD Cert.QRefIdeal.τ).loc Cert.QRefIdeal.main_arg0) = m ((c.tc : Thread Cert.QPrepIdeal.nD Cert.QPrepIdeal.τ).loc Cert.QPrepIdeal.main_arg0)
      ∧ m' ((c.tc : Thread Cert.QRefIdeal.nD Cert.QRefIdeal.τ).loc Cert.QRefIdeal.main_arg1) = m ((c.tc : Thread Cert.QPrepIdeal.nD Cert.QPrepIdeal.τ).loc Cert.QPrepIdeal.main_arg1)) →
    ∃ (v0 : (c : Dev Cert.QPrepIdeal.nD) → Buf (Elt Ideal) ((c.tc : Thread Cert.QPrepIdeal.nD Cert.QPrepIdeal.τ).loc Cert.QPrepIdeal.main_v0_0)) (v1 : (c : Dev Cert.QPrepIdeal.nD) → Buf (Elt Ideal) ((c.tc : Thread Cert.QPrepIdeal.nD Cert.QPrepIdeal.τ).loc Cert.QPrepIdeal.main_v0_1)),
      θ_run (Cert.QPrepIdeal.defs (F := Ideal)) (onTc (τ := Cert.QPrepIdeal.τ) (Cert.QPrepIdeal.main (F := Ideal))) ⟨m, fun _ => 0, g⟩ (fun r => ∀ c : Dev Cert.QPrepIdeal.nD,
          r.2.mem ((c.tc : Thread Cert.QPrepIdeal.nD Cert.QPrepIdeal.τ).loc Cert.QPrepIdeal.main_v0_0) = v0 c
          ∧ r.2.mem ((c.tc : Thread Cert.QPrepIdeal.nD Cert.QPrepIdeal.τ).loc Cert.QPrepIdeal.main_v0_1) = v1 c
          ∧ r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
          ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v9) = v0 c
          ∧ r.2.mem ((c.tc : Thread Cert.QRefIdeal.nD Cert.QRefIdeal.τ).loc Cert.QRefIdeal.main_v14) = v1 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_KvPrep_KvPrepIdeal : Prop :=
  True

def algebraic_KvPrepIdeal_KvRefIdeal [hKvPrepIdeal : Cert.KvPrepIdeal.Facts] [hKvRefIdeal : Cert.KvRefIdeal.Facts] : Prop :=
  ∀ (m : (ℓ : Loc Cert.KvPrepIdeal.nD Cert.KvPrepIdeal.τ Cert.KvPrepIdeal.sig) → Buf (Elt Ideal) ℓ) (g : Dev Cert.KvPrepIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvPrepIdeal m →
    (∀ c : Dev Cert.KvPrepIdeal.nD,
      m' ((c.tc : Thread Cert.KvRefIdeal.nD Cert.KvRefIdeal.τ).loc Cert.KvRefIdeal.main_arg0) = m ((c.tc : Thread Cert.KvPrepIdeal.nD Cert.KvPrepIdeal.τ).loc Cert.KvPrepIdeal.main_arg0)
      ∧ m' ((c.tc : Thread Cert.KvRefIdeal.nD Cert.KvRefIdeal.τ).loc Cert.KvRefIdeal.main_arg1) = m ((c.tc : Thread Cert.KvPrepIdeal.nD Cert.KvPrepIdeal.τ).loc Cert.KvPrepIdeal.main_arg1)
      ∧ m' ((c.tc : Thread Cert.KvRefIdeal.nD Cert.KvRefIdeal.τ).loc Cert.KvRefIdeal.main_arg2) = m ((c.tc : Thread Cert.KvPrepIdeal.nD Cert.KvPrepIdeal.τ).loc Cert.KvPrepIdeal.main_arg2)
      ∧ m' ((c.tc : Thread Cert.KvRefIdeal.nD Cert.KvRefIdeal.τ).loc Cert.KvRefIdeal.main_arg3) = m ((c.tc : Thread Cert.KvPrepIdeal.nD Cert.KvPrepIdeal.τ).loc Cert.KvPrepIdeal.main_arg3)) →
    ∃ (v0 : (c : Dev Cert.KvPrepIdeal.nD) → Buf (Elt Ideal) ((c.tc : Thread Cert.KvPrepIdeal.nD Cert.KvPrepIdeal.τ).loc Cert.KvPrepIdeal.main_v0_0)) (v1 : (c : Dev Cert.KvPrepIdeal.nD) → Buf (Elt Ideal) ((c.tc : Thread Cert.KvPrepIdeal.nD Cert.KvPrepIdeal.τ).loc Cert.KvPrepIdeal.main_v0_1)) (v2 : (c : Dev Cert.KvPrepIdeal.nD) → Buf (Elt Ideal) ((c.tc : Thread Cert.KvPrepIdeal.nD Cert.KvPrepIdeal.τ).loc Cert.KvPrepIdeal.main_v0_2)) (v3 : (c : Dev Cert.KvPrepIdeal.nD) → Buf (Elt Ideal) ((c.tc : Thread Cert.KvPrepIdeal.nD Cert.KvPrepIdeal.τ).loc Cert.KvPrepIdeal.main_v0_3)) (v4 : (c : Dev Cert.KvPrepIdeal.nD) → Buf (Elt Ideal) ((c.tc : Thread Cert.KvPrepIdeal.nD Cert.KvPrepIdeal.τ).loc Cert.KvPrepIdeal.main_v0_4)),
      θ_run (Cert.KvPrepIdeal.defs (F := Ideal)) (onTc (τ := Cert.KvPrepIdeal.τ) (Cert.KvPrepIdeal.main (F := Ideal))) ⟨m, fun _ => 0, g⟩ (fun r => ∀ c : Dev Cert.KvPrepIdeal.nD,
          r.2.mem ((c.tc : Thread Cert.KvPrepIdeal.nD Cert.KvPrepIdeal.τ).loc Cert.KvPrepIdeal.main_v0_0) = v0 c
          ∧ r.2.mem ((c.tc : Thread Cert.KvPrepIdeal.nD Cert.KvPrepIdeal.τ).loc Cert.KvPrepIdeal.main_v0_1) = v1 c
          ∧ r.2.mem ((c.tc : Thread Cert.KvPrepIdeal.nD Cert.KvPrepIdeal.τ).loc Cert.KvPrepIdeal.main_v0_2) = v2 c
          ∧ r.2.mem ((c.tc : Thread Cert.KvPrepIdeal.nD Cert.KvPrepIdeal.τ).loc Cert.KvPrepIdeal.main_v0_3) = v3 c
          ∧ r.2.mem ((c.tc : Thread Cert.KvPrepIdeal.nD Cert.KvPrepIdeal.τ).loc Cert.KvPrepIdeal.main_v0_4) = v4 c
          ∧ r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
          ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
          ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2)
          ∧ r.2.mem ((c.tc : Thread Cert.KvPrepIdeal.nD Cert.KvPrepIdeal.τ).loc Cert.KvPrepIdeal.main_arg3) = m ((c.tc : Thread Cert.KvPrepIdeal.nD Cert.KvPrepIdeal.τ).loc Cert.KvPrepIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v39) = v0 c
          ∧ r.2.mem ((c.tc : Thread Cert.KvRefIdeal.nD Cert.KvRefIdeal.τ).loc Cert.KvRefIdeal.main_v40) = v1 c
          ∧ r.2.mem ((c.tc : Thread Cert.KvRefIdeal.nD Cert.KvRefIdeal.τ).loc Cert.KvRefIdeal.main_v28) = v2 c
          ∧ r.2.mem ((c.tc : Thread Cert.KvRefIdeal.nD Cert.KvRefIdeal.τ).loc Cert.KvRefIdeal.main_v33) = v3 c
          ∧ r.2.mem ((c.tc : Thread Cert.KvRefIdeal.nD Cert.KvRefIdeal.τ).loc Cert.KvRefIdeal.main_v38) = v4 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def Claim : Prop :=
  ∃ (hKernel : Cert.Kernel.Facts) (hKernelIdeal : Cert.KernelIdeal.Facts) (hReferenceIdeal : Cert.ReferenceIdeal.Facts) (hQPrep : Cert.QPrep.Facts) (hQPrepIdeal : Cert.QPrepIdeal.Facts) (hQRefIdeal : Cert.QRefIdeal.Facts) (hKvPrep : Cert.KvPrep.Facts) (hKvPrepIdeal : Cert.KvPrepIdeal.Facts) (hKvRefIdeal : Cert.KvRefIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ quiescent_QPrep (hQPrep := hQPrep)
    ∧ quiescent_QPrepIdeal (hQPrepIdeal := hQPrepIdeal)
    ∧ quiescent_QRefIdeal (hQRefIdeal := hQRefIdeal)
    ∧ quiescent_KvPrep (hKvPrep := hKvPrep)
    ∧ quiescent_KvPrepIdeal (hKvPrepIdeal := hKvPrepIdeal)
    ∧ quiescent_KvRefIdeal (hKvRefIdeal := hKvRefIdeal)
    ∧ preserves_Kernel_KernelIdeal
    ∧ algebraic_KernelIdeal_ReferenceIdeal_pre_scales_positive (hKernelIdeal := hKernelIdeal) (hReferenceIdeal := hReferenceIdeal) (hPre_scales_positive := hPre_scales_positive)
    ∧ preserves_QPrep_QPrepIdeal
    ∧ algebraic_QPrepIdeal_QRefIdeal (hQPrepIdeal := hQPrepIdeal) (hQRefIdeal := hQRefIdeal)
    ∧ preserves_KvPrep_KvPrepIdeal
    ∧ algebraic_KvPrepIdeal_KvRefIdeal (hKvPrepIdeal := hKvPrepIdeal) (hKvRefIdeal := hKvRefIdeal)
-- ==== Pre_scales_positive.lean ====
abbrev S2x32 : Shape := ⟨2, ![2, 32]⟩
abbrev S2x8 : Shape := ⟨2, ![2, 8]⟩
abbrev S2x32x160x8192 : Shape := ⟨4, ![2, 32, 160, 8192]⟩
abbrev S2x8x8192x256 : Shape := ⟨4, ![2, 8, 8192, 256]⟩
abbrev S2x8x160x8192 : Shape := ⟨4, ![2, 8, 160, 8192]⟩
abbrev S_ : Shape := ⟨0, ![]⟩

class Facts : Prop where
  bcast_S_S2x32 : S_.BroadcastsInDim S2x32 (![] : Fin 0 → Fin S2x32.rank)
  bcast_S_S2x8 : S_.BroadcastsInDim S2x8 (![] : Fin 0 → Fin S2x8.rank)

variable [Facts]

def fn {F : FTy → Type} [FloatOps F] (main_arg0 : FVec F S2x32 .f32) (main_arg1 : FVec F S2x8 .f32) (main_arg2 : FVec F S2x8 .f32) (main_arg3 : FVec F S2x32x160x8192 .fp8e4m3) (main_arg4 : FVec F S2x8x8192x256 .fp8e4m3) (main_arg5 : FVec F S2x8x160x8192 .fp8e4m3) : IVec S2x32 1 × IVec S2x8 1 :=
  let main_cst : FVec F S_ .f32 := constant S_ .f32 0x00000000#32
  let main_v0 : FVec F S2x32 .f32 := broadcastInDim S2x32 ![] bcast_S_S2x32 main_cst
  let main_v1 : IVec S2x32 1 := cmpf .ogt main_arg0 main_v0
  let main_cst_0 : FVec F S_ .f32 := constant S_ .f32 0x00000000#32
  let main_v2 : FVec F S2x8 .f32 := broadcastInDim S2x8 ![] bcast_S_S2x8 main_cst_0
  let main_v3 : IVec S2x8 1 := cmpf .ogt main_arg1 main_v2
  (main_v1, main_v3)
-- ==== Kernel.lean ====
abbrev S2x32 : Shape := ⟨2, ![2, 32]⟩
abbrev S2x8 : Shape := ⟨2, ![2, 8]⟩
abbrev S2x32x160x8192 : Shape := ⟨4, ![2, 32, 160, 8192]⟩
abbrev S2x8x8192x256 : Shape := ⟨4, ![2, 8, 8192, 256]⟩
abbrev S2x8x160x8192 : Shape := ⟨4, ![2, 8, 160, 8192]⟩
abbrev S2x8192x5120 : Shape := ⟨3, ![2, 8192, 5120]⟩
abbrev S2x8x4x128 : Shape := ⟨4, ![2, 8, 4, 128]⟩
abbrev S1x4x160x128 : Shape := ⟨4, ![1, 4, 160, 128]⟩
abbrev S1x1x8192x256 : Shape := ⟨4, ![1, 1, 8192, 256]⟩
abbrev S1x1x160x8192 : Shape := ⟨4, ![1, 1, 160, 8192]⟩
abbrev S1x128x640 : Shape := ⟨3, ![1, 128, 640]⟩
abbrev S1x1x4x128 : Shape := ⟨4, ![1, 1, 4, 128]⟩
abbrev S8192x512 : Shape := ⟨2, ![8192, 512]⟩
abbrev S160x512 : Shape := ⟨2, ![160, 512]⟩
abbrev S1x1x160x128 : Shape := ⟨4, ![1, 1, 160, 128]⟩
abbrev S160x128 : Shape := ⟨2, ![160, 128]⟩
abbrev S1x1 : Shape := ⟨2, ![1, 1]⟩
abbrev S1x128 : Shape := ⟨2, ![1, 128]⟩
abbrev S1x512 : Shape := ⟨2, ![1, 512]⟩
abbrev S8x512 : Shape := ⟨2, ![8, 512]⟩
abbrev S1x1x512x160 : Shape := ⟨4, ![1, 1, 512, 160]⟩
abbrev S512x160 : Shape := ⟨2, ![512, 160]⟩
abbrev S512x512 : Shape := ⟨2, ![512, 512]⟩
abbrev S64x8x512 : Shape := ⟨3, ![64, 8, 512]⟩
abbrev S512 : Shape := ⟨1, ![512]⟩
abbrev S1x1x160x512 : Shape := ⟨4, ![1, 1, 160, 512]⟩
abbrev S128 : Shape := ⟨1, ![128]⟩
abbrev S1 : Shape := ⟨1, ![1]⟩
abbrev S128x160 : Shape := ⟨2, ![128, 160]⟩
abbrev S128x640 : Shape := ⟨2, ![128, 640]⟩
abbrev S4x128 : Shape := ⟨2, ![4, 128]⟩

abbrev nBuf : Space → Nat
  | .hbm => 8
  | .vmem => 12
  | .smem => 3
  | _ => 0

abbrev bufTy : (tb : Table) → Fin (tcTables nBuf tb) → BufTy
  | .hbm, ⟨0, _⟩ => ⟨S2x32, .f32⟩
  | .hbm, ⟨1, _⟩ => ⟨S2x8, .f32⟩
  | .hbm, ⟨2, _⟩ => ⟨S2x8, .f32⟩
  | .hbm, ⟨3, _⟩ => ⟨S2x32x160x8192, .fp8e4m3⟩
  | .hbm, ⟨4, _⟩ => ⟨S2x8x8192x256, .fp8e4m3⟩
  | .hbm, ⟨5, _⟩ => ⟨S2x8x160x8192, .fp8e4m3⟩
  | .hbm, ⟨6, _⟩ => ⟨S2x8192x5120, .bf16⟩
  | .hbm, ⟨7, _⟩ => ⟨S2x8x4x128, .f32⟩
  | .local _ .vmem, ⟨0, _⟩ => ⟨S1x4x160x128, .fp8e4m3⟩
  | .local _ .vmem, ⟨1, _⟩ => ⟨S1x4x160x128, .fp8e4m3⟩
  | .local _ .vmem, ⟨2, _⟩ => ⟨S1x1x8192x256, .fp8e4m3⟩
  | .local _ .vmem, ⟨3, _⟩ => ⟨S1x1x8192x256, .fp8e4m3⟩
  | .local _ .vmem, ⟨4, _⟩ => ⟨S1x1x160x8192, .fp8e4m3⟩
  | .local _ .vmem, ⟨5, _⟩ => ⟨S1x1x160x8192, .fp8e4m3⟩
  | .local _ .vmem, ⟨6, _⟩ => ⟨S1x128x640, .bf16⟩
  | .local _ .vmem, ⟨7, _⟩ => ⟨S1x128x640, .bf16⟩
  | .local _ .vmem, ⟨8, _⟩ => ⟨S1x1x4x128, .f32⟩
  | .local _ .vmem, ⟨9, _⟩ => ⟨S1x1x4x128, .f32⟩
  | .local _ .vmem, ⟨10, _⟩ => ⟨S8192x512, .f32⟩
  | .local _ .vmem, ⟨11, _⟩ => ⟨S160x512, .f32⟩
  | .local _ .smem, ⟨0, _⟩ => ⟨S2x32, .f32⟩
  | .local _ .smem, ⟨1, _⟩ => ⟨S2x8, .f32⟩
  | .local _ .smem, ⟨2, _⟩ => ⟨S2x8, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 8, 64], ![false, false, false]⟩

def k0_off1 (i : grid0.Coords) (c0_i32_20 : BitVec 32) : Fin 2 → Nat :=
  let arg0 : BitVec 32 := BitVec.ofNat 32 (i 0).val
  let v33 : Index := Scalar.indexCast arg0
  let arg1 : BitVec 32 := BitVec.ofNat 32 (i 1).val
  let c4_i32 : BitVec 32 := 4#32
  let v31 : BitVec 32 := Scalar.muli arg1 c4_i32
  let v32 : BitVec 32 := Scalar.addi v31 c0_i32_20
  let v34 : Index := Scalar.indexCast v32
  ![v33.toNat, v34.toNat]
def k0_off2 (i : grid0.Coords) : Fin 2 → Nat :=
  let arg0 : BitVec 32 := BitVec.ofNat 32 (i 0).val
  let v36 : Index := Scalar.indexCast arg0
  let arg1 : BitVec 32 := BitVec.ofNat 32 (i 1).val
  let v37 : Index := Scalar.indexCast arg1
  ![v36.toNat, v37.toNat]
@[reducible] def k0_t1_loop (i : grid0.Coords) : Scf.Loop 32 :=
  let c0_i32_33 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let v81 : BitVec 32 := Scalar.subi v21 c0_i32_33
  let c1_i32_34 : BitVec 32 := 1#32
  let v83 : BitVec 32 := Scalar.divsi v81 c1_i32_34
  let v84 : BitVec 32 := Scalar.muli v83 c1_i32_34
  let v85 : BitVec 32 := Scalar.addi c0_i32_33 v84
  let c1_i32_35 : BitVec 32 := 1#32
  ⟨c0_i32_33, v85, c1_i32_35⟩
def k0_mult1 (i : grid0.Coords) (k0_t1 : Fin (k0_t1_loop i).trips) : BitVec 32 :=
  let c0_i32_33 : BitVec 32 := 0#32
  let c1_i32_35 : BitVec 32 := 1#32
  let arg13 : BitVec 32 := Scf.iv c0_i32_33 c1_i32_35 k0_t1
  let c512_i32_79 : BitVec 32 := 512#32
  let v200 : BitVec 32 := Scalar.muli arg13 c512_i32_79
  v200
def k0_off3 (i : grid0.Coords) (k0_t1 : Fin (k0_t1_loop i).trips) : Fin 4 → Nat :=
  let c0_80 : Index := 0#32
  let c0_81 : Index := 0#32
  let c0_i32_33 : BitVec 32 := 0#32
  let c1_i32_35 : BitVec 32 := 1#32
  let arg13 : BitVec 32 := Scf.iv c0_i32_33 c1_i32_35 k0_t1
  let c512_i32_79 : BitVec 32 := 512#32
  let v200 : BitVec 32 := Scalar.muli arg13 c512_i32_79
  let v201 : BitVec 32 := v200
  let v202 : Index := Scalar.indexCast v201
  let c0_82 : Index := 0#32
  ![0, 0, v202.toNat, 0]
def k0_off4 (i : grid0.Coords) (k0_t1 : Fin (k0_t1_loop i).trips) : Fin 2 → Nat :=
  let c0_i32_33 : BitVec 32 := 0#32
  let c1_i32_35 : BitVec 32 := 1#32
  let arg13 : BitVec 32 := Scf.iv c0_i32_33 c1_i32_35 k0_t1
  let c512_i32_79 : BitVec 32 := 512#32
  let v200 : BitVec 32 := Scalar.muli arg13 c512_i32_79
  let v201 : BitVec 32 := v200
  let v206 : Index := Scalar.indexCast v201
  let c0_84 : Index := 0#32
  ![v206.toNat, 0]
@[reducible] def k0_t2_loop (i : grid0.Coords) : Scf.Loop 32 :=
  let c0_i32_33 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let v81 : BitVec 32 := Scalar.subi v21 c0_i32_33
  let c1_i32_34 : BitVec 32 := 1#32
  let v83 : BitVec 32 := Scalar.divsi v81 c1_i32_34
  let v84 : BitVec 32 := Scalar.muli v83 c1_i32_34
  let v85 : BitVec 32 := Scalar.addi c0_i32_33 v84
  let v82 : BitVec 32 := Scalar.addi c0_i32_33 v81
  let c1_i32_36 : BitVec 32 := 1#32
  ⟨v85, v82, c1_i32_36⟩
def k0_mult2 (i : grid0.Coords) (k0_t2 : Fin (k0_t2_loop i).trips) : BitVec 32 :=
  let c0_i32_33 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let v81 : BitVec 32 := Scalar.subi v21 c0_i32_33
  let c1_i32_34 : BitVec 32 := 1#32
  let v83 : BitVec 32 := Scalar.divsi v81 c1_i32_34
  let v84 : BitVec 32 := Scalar.muli v83 c1_i32_34
  let v85 : BitVec 32 := Scalar.addi c0_i32_33 v84
  let c1_i32_36 : BitVec 32 := 1#32
  let arg13 : BitVec 32 := Scf.iv v85 c1_i32_36 k0_t2
  let c512_i32_79 : BitVec 32 := 512#32
  let v200 : BitVec 32 := Scalar.muli arg13 c512_i32_79
  v200
def k0_off5 (i : grid0.Coords) (k0_t2 : Fin (k0_t2_loop i).trips) : Fin 4 → Nat :=
  let c0_80 : Index := 0#32
  let c0_81 : Index := 0#32
  let c0_i32_33 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let v81 : BitVec 32 := Scalar.subi v21 c0_i32_33
  let c1_i32_34 : BitVec 32 := 1#32
  let v83 : BitVec 32 := Scalar.divsi v81 c1_i32_34
  let v84 : BitVec 32 := Scalar.muli v83 c1_i32_34
  let v85 : BitVec 32 := Scalar.addi c0_i32_33 v84
  let c1_i32_36 : BitVec 32 := 1#32
  let arg13 : BitVec 32 := Scf.iv v85 c1_i32_36 k0_t2
  let c512_i32_79 : BitVec 32 := 512#32
  let v200 : BitVec 32 := Scalar.muli arg13 c512_i32_79
  let v201 : BitVec 32 := v200
  let v202 : Index := Scalar.indexCast v201
  let c0_82 : Index := 0#32
  ![0, 0, v202.toNat, 0]
def k0_off6 (i : grid0.Coords) (k0_t2 : Fin (k0_t2_loop i).trips) : Fin 2 → Nat :=
  let c0_i32_33 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let v81 : BitVec 32 := Scalar.subi v21 c0_i32_33
  let c1_i32_34 : BitVec 32 := 1#32
  let v83 : BitVec 32 := Scalar.divsi v81 c1_i32_34
  let v84 : BitVec 32 := Scalar.muli v83 c1_i32_34
  let v85 : BitVec 32 := Scalar.addi c0_i32_33 v84
  let c1_i32_36 : BitVec 32 := 1#32
  let arg13 : BitVec 32 := Scf.iv v85 c1_i32_36 k0_t2
  let c512_i32_79 : BitVec 32 := 512#32
  let v200 : BitVec 32 := Scalar.muli arg13 c512_i32_79
  let v201 : BitVec 32 := v200
  let v206 : Index := Scalar.indexCast v201
  let c0_84 : Index := 0#32
  ![v206.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let c512_i32_37 : BitVec 32 := 512#32
  let v88 : BitVec 32 := Scalar.muli v21 c512_i32_37
  v88
def k0_off7 (i : grid0.Coords) : Fin 4 → Nat :=
  let c0_38 : Index := 0#32
  let c0_39 : Index := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let c512_i32_37 : BitVec 32 := 512#32
  let v88 : BitVec 32 := Scalar.muli v21 c512_i32_37
  let v89 : BitVec 32 := v88
  let v90 : Index := Scalar.indexCast v89
  let c0_40 : Index := 0#32
  ![0, 0, v90.toNat, 0]
def k0_off8 (i : grid0.Coords) : Fin 2 → Nat :=
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.subi v20 c1_i32_7
  let c512_i32_37 : BitVec 32 := 512#32
  let v88 : BitVec 32 := Scalar.muli v21 c512_i32_37
  let v89 : BitVec 32 := v88
  let v120 : Index := Scalar.indexCast v89
  let c0_50 : Index := 0#32
  ![v120.toNat, 0]
@[reducible] def k0_t3_loop (i : grid0.Coords) : Scf.Loop 32 :=
  let c0_i32_57 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v135 : BitVec 32 := Scalar.subi v20 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_59 : BitVec 32 := 1#32
  ⟨c0_i32_57, v139, c1_i32_59⟩
def k0_mult4 (i : grid0.Coords) (k0_t3 : Fin (k0_t3_loop i).trips) : BitVec 32 :=
  let c0_i32_57 : BitVec 32 := 0#32
  let c1_i32_59 : BitVec 32 := 1#32
  let arg13 : BitVec 32 := Scf.iv c0_i32_57 c1_i32_59 k0_t3
  let c512_i32_79 : BitVec 32 := 512#32
  let v200 : BitVec 32 := Scalar.muli arg13 c512_i32_79
  v200
def k0_off9 (i : grid0.Coords) (k0_t3 : Fin (k0_t3_loop i).trips) : Fin 2 → Nat :=
  let c0_i32_57 : BitVec 32 := 0#32
  let c1_i32_59 : BitVec 32 := 1#32
  let arg13 : BitVec 32 := Scf.iv c0_i32_57 c1_i32_59 k0_t3
  let c512_i32_79 : BitVec 32 := 512#32
  let v200 : BitVec 32 := Scalar.muli arg13 c512_i32_79
  let v201 : BitVec 32 := v200
  let v202 : Index := Scalar.indexCast v201
  let c0_80 : Index := 0#32
  ![v202.toNat, 0]
def k0_off10 (i : grid0.Coords) (k0_t3 : Fin (k0_t3_loop i).trips) : Fin 4 → Nat :=
  let c0_84 : Index := 0#32
  let c0_85 : Index := 0#32
  let c0_86 : Index := 0#32
  let c0_i32_57 : BitVec 32 := 0#32
  let c1_i32_59 : BitVec 32 := 1#32
  let arg13 : BitVec 32 := Scf.iv c0_i32_57 c1_i32_59 k0_t3
  let c512_i32_79 : BitVec 32 := 512#32
  let v200 : BitVec 32 := Scalar.muli arg13 c512_i32_79
  let v201 : BitVec 32 := v200
  let v213 : Index := Scalar.indexCast v201
  ![0, 0, 0, v213.toNat]
@[reducible] def k0_t4_loop (i : grid0.Coords) : Scf.Loop 32 :=
  let c0_i32_57 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v135 : BitVec 32 := Scalar.subi v20 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let v136 : BitVec 32 := Scalar.addi c0_i32_57 v135
  let c1_i32_60 : BitVec 32 := 1#32
  ⟨v139, v136, c1_i32_60⟩
def k0_mult5 (i : grid0.Coords) (k0_t4 : Fin (k0_t4_loop i).trips) : BitVec 32 :=
  let c0_i32_57 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v135 : BitVec 32 := Scalar.subi v20 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg13 : BitVec 32 := Scf.iv v139 c1_i32_60 k0_t4
  let c512_i32_79 : BitVec 32 := 512#32
  let v200 : BitVec 32 := Scalar.muli arg13 c512_i32_79
  v200
def k0_off11 (i : grid0.Coords) (k0_t4 : Fin (k0_t4_loop i).trips) : Fin 2 → Nat :=
  let c0_i32_57 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v135 : BitVec 32 := Scalar.subi v20 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg13 : BitVec 32 := Scf.iv v139 c1_i32_60 k0_t4
  let c512_i32_79 : BitVec 32 := 512#32
  let v200 : BitVec 32 := Scalar.muli arg13 c512_i32_79
  let v201 : BitVec 32 := v200
  let v202 : Index := Scalar.indexCast v201
  let c0_80 : Index := 0#32
  ![v202.toNat, 0]
def k0_off12 (i : grid0.Coords) (k0_t4 : Fin (k0_t4_loop i).trips) : Fin 4 → Nat :=
  let c0_84 : Index := 0#32
  let c0_85 : Index := 0#32
  let c0_86 : Index := 0#32
  let c0_i32_57 : BitVec 32 := 0#32
  let arg2 : BitVec 32 := BitVec.ofNat 32 (i 2).val
  let c128_i32 : BitVec 32 := 128#32
  let v0 : BitVec 32 := Scalar.muli arg2 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v135 : BitVec 32 := Scalar.subi v20 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg13 : BitVec 32 := Scf.iv v139 c1_i32_60 k0_t4
  let c512_i32_79 : BitVec 32 := 512#32
  let v200 : BitVec 32 := Scalar.muli arg13 c512_i32_79
  let v201 : BitVec 32 := v200
  let v213 : Index := Scalar.indexCast v201
  ![0, 0, 0, v213.toNat]
def k0_cond1 (i : grid0.Coords) : BitVec 1 :=
  let arg2 : BitVec 32 := BitVec.ofNat 32 (i 2).val
  let c0_i32_75 : BitVec 32 := 0#32
  let v194 : BitVec 1 := Scalar.cmpi .eq arg2 c0_i32_75
  let v195 : BitVec 32 := Scalar.extui v194
  let c0_i32_76 : BitVec 32 := 0#32
  let v196 : BitVec 1 := Scalar.cmpi .ne v195 c0_i32_76
  v196

def k0_cond2 (i : grid0.Coords) : BitVec 1 :=
  let arg2 : BitVec 32 := BitVec.ofNat 32 (i 2).val
  let c0_i32_77 : BitVec 32 := 0#32
  let v197 : BitVec 1 := Scalar.cmpi .sgt arg2 c0_i32_77
  let v198 : BitVec 32 := Scalar.extui v197
  let c0_i32_78 : BitVec 32 := 0#32
  let v199 : BitVec 1 := Scalar.cmpi .ne v198 c0_i32_78
  v199

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x4x160x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x160x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "log2e" => some (((Real.log 2)⁻¹ : ℝ) : EReal)
  | "masked" => some ⊥
  | _ => none
-- ==== ReferenceIdeal.lean ====
abbrev S2x32 : Shape := ⟨2, ![2, 32]⟩
abbrev S2x8 : Shape := ⟨2, ![2, 8]⟩
abbrev S2x32x160x8192 : Shape := ⟨4, ![2, 32, 160, 8192]⟩
abbrev S2x8x8192x256 : Shape := ⟨4, ![2, 8, 8192, 256]⟩
abbrev S2x8x160x8192 : Shape := ⟨4, ![2, 8, 160, 8192]⟩
abbrev S2x8192x5120 : Shape := ⟨3, ![2, 8192, 5120]⟩
abbrev S2x8x4x128 : Shape := ⟨4, ![2, 8, 4, 128]⟩
abbrev S2x32x8192x160 : Shape := ⟨4, ![2, 32, 8192, 160]⟩
abbrev S16x32768x160 : Shape := ⟨3, ![16, 32768, 160]⟩
abbrev S2x8x8192x160 : Shape := ⟨4, ![2, 8, 8192, 160]⟩
abbrev S16x8192x160 : Shape := ⟨3, ![16, 8192, 160]⟩
abbrev S2x8x4 : Shape := ⟨3, ![2, 8, 4]⟩
abbrev S2x8x1 : Shape := ⟨3, ![2, 8, 1]⟩
abbrev S2x8x4x1x1 : Shape := ⟨5, ![2, 8, 4, 1, 1]⟩
abbrev S2x8x1x1x1 : Shape := ⟨5, ![2, 8, 1, 1, 1]⟩
abbrev S16x32768x8192 : Shape := ⟨3, ![16, 32768, 8192]⟩
abbrev S2x8x4x8192x8192 : Shape := ⟨5, ![2, 8, 4, 8192, 8192]⟩
abbrev S2x8x4x8192 : Shape := ⟨4, ![2, 8, 4, 8192]⟩
abbrev S2x8x4x8192x1 : Shape := ⟨5, ![2, 8, 4, 8192, 1]⟩
abbrev S2x8x4x8192x160 : Shape := ⟨5, ![2, 8, 4, 8192, 160]⟩
abbrev S2x8x4x1 : Shape := ⟨4, ![2, 8, 4, 1]⟩
abbrev S2x8192x8x4x160 : Shape := ⟨5, ![2, 8192, 8, 4, 160]⟩

abbrev nBuf : Space → Nat
  | .hbm => 8
  | .vmem => 8
  | .smem => 0
  | _ => 0

abbrev bufTy : (tb : Table) → Fin (tcTables nBuf tb) → BufTy
  | .hbm, ⟨0, _⟩ => ⟨S2x32, .f32⟩
  | .hbm, ⟨1, _⟩ => ⟨S2x8, .f32⟩
  | .hbm, ⟨2, _⟩ => ⟨S2x8, .f32⟩
  | .hbm, ⟨3, _⟩ => ⟨S2x32x160x8192, .fp8e4m3⟩
  | .hbm, ⟨4, _⟩ => ⟨S2x8x8192x256, .fp8e4m3⟩
  | .hbm, ⟨5, _⟩ => ⟨S2x8x160x8192, .fp8e4m3⟩
  | .hbm, ⟨6, _⟩ => ⟨S2x8192x5120, .bf16⟩
  | .hbm, ⟨7, _⟩ => ⟨S2x8x4x128, .f32⟩
  | .local _ .vmem, ⟨0, _⟩ => ⟨S2x32, .f32⟩
  | .local _ .vmem, ⟨1, _⟩ => ⟨S2x8, .f32⟩
  | .local _ .vmem, ⟨2, _⟩ => ⟨S2x8, .f32⟩
  | .local _ .vmem, ⟨3, _⟩ => ⟨S2x32x160x8192, .fp8e4m3⟩
  | .local _ .vmem, ⟨4, _⟩ => ⟨S2x8x8192x256, .fp8e4m3⟩
  | .local _ .vmem, ⟨5, _⟩ => ⟨S2x8x160x8192, .fp8e4m3⟩
  | .local _ .vmem, ⟨6, _⟩ => ⟨S2x8192x5120, .bf16⟩
  | .local _ .vmem, ⟨7, _⟩ => ⟨S2x8x4x128, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x160x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x8192x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x160x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QPrep.lean ====
abbrev S2x32 : Shape := ⟨2, ![2, 32]⟩
abbrev S2x8192x5120 : Shape := ⟨3, ![2, 8192, 5120]⟩
abbrev S2x32x160x8192 : Shape := ⟨4, ![2, 32, 160, 8192]⟩
abbrev S2x8x4x128 : Shape := ⟨4, ![2, 8, 4, 128]⟩
abbrev S1x1024x640 : Shape := ⟨3, ![1, 1024, 640]⟩
abbrev S1x4x160x1024 : Shape := ⟨4, ![1, 4, 160, 1024]⟩
abbrev S1x1x4x128 : Shape := ⟨4, ![1, 1, 4, 128]⟩
abbrev S1024x640 : Shape := ⟨2, ![1024, 640]⟩
abbrev S640x1024 : Shape := ⟨2, ![640, 1024]⟩
abbrev S160x1024 : Shape := ⟨2, ![160, 1024]⟩
abbrev S1x1 : Shape := ⟨2, ![1, 1]⟩
abbrev S1x1x160x1024 : Shape := ⟨4, ![1, 1, 160, 1024]⟩
abbrev S1024 : Shape := ⟨1, ![1024]⟩
abbrev S1x1024 : Shape := ⟨2, ![1, 1024]⟩
abbrev S1 : Shape := ⟨1, ![1]⟩
abbrev S1x128 : Shape := ⟨2, ![1, 128]⟩
abbrev S4x128 : Shape := ⟨2, ![4, 128]⟩

abbrev nBuf : Space → Nat
  | .hbm => 4
  | .vmem => 6
  | .smem => 1
  | _ => 0

abbrev bufTy : (tb : Table) → Fin (tcTables nBuf tb) → BufTy
  | .hbm, ⟨0, _⟩ => ⟨S2x32, .f32⟩
  | .hbm, ⟨1, _⟩ => ⟨S2x8192x5120, .bf16⟩
  | .hbm, ⟨2, _⟩ => ⟨S2x32x160x8192, .fp8e4m3⟩
  | .hbm, ⟨3, _⟩ => ⟨S2x8x4x128, .f32⟩
  | .local _ .vmem, ⟨0, _⟩ => ⟨S1x1024x640, .bf16⟩
  | .local _ .vmem, ⟨1, _⟩ => ⟨S1x1024x640, .bf16⟩
  | .local _ .vmem, ⟨2, _⟩ => ⟨S1x4x160x1024, .fp8e4m3⟩
  | .local _ .vmem, ⟨3, _⟩ => ⟨S1x4x160x1024, .fp8e4m3⟩
  | .local _ .vmem, ⟨4, _⟩ => ⟨S1x1x4x128, .f32⟩
  | .local _ .vmem, ⟨5, _⟩ => ⟨S1x1x4x128, .f32⟩
  | .local _ .smem, ⟨0, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 8], ![false, false, false]⟩

def k0_off1 (i : grid0.Coords) (c0_i32 : BitVec 32) : Fin 2 → Nat :=
  let arg0 : BitVec 32 := BitVec.ofNat 32 (i 0).val
  let v7 : Index := Scalar.indexCast arg0
  let arg1 : BitVec 32 := BitVec.ofNat 32 (i 1).val
  let c4_i32 : BitVec 32 := 4#32
  let v5 : BitVec 32 := Scalar.muli arg1 c4_i32
  let v6 : BitVec 32 := Scalar.addi v5 c0_i32
  let v8 : Index := Scalar.indexCast v6
  ![v7.toNat, v8.toNat]
def k0_cond1 (i : grid0.Coords) : BitVec 1 :=
  let arg2 : BitVec 32 := BitVec.ofNat 32 (i 2).val
  let c0_i32_37 : BitVec 32 := 0#32
  let v101 : BitVec 1 := Scalar.cmpi .eq arg2 c0_i32_37
  let v102 : BitVec 32 := Scalar.extui v101
  let c0_i32_38 : BitVec 32 := 0#32
  let v103 : BitVec 1 := Scalar.cmpi .ne v102 c0_i32_38
  v103

def k0_cond2 (i : grid0.Coords) : BitVec 1 :=
  let arg2 : BitVec 32 := BitVec.ofNat 32 (i 2).val
  let c0_i32_39 : BitVec 32 := 0#32
  let v104 : BitVec 1 := Scalar.cmpi .sgt arg2 c0_i32_39
  let v105 : BitVec 32 := Scalar.extui v104
  let c0_i32_40 : BitVec 32 := 0#32
  let v106 : BitVec 1 := Scalar.cmpi .ne v105 c0_i32_40
  v106

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x160x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QRefIdeal.lean ====
abbrev S2x32 : Shape := ⟨2, ![2, 32]⟩
abbrev S2x8192x5120 : Shape := ⟨3, ![2, 8192, 5120]⟩
abbrev S2x8192x32x160 : Shape := ⟨4, ![2, 8192, 32, 160]⟩
abbrev S_ : Shape := ⟨0, ![]⟩
abbrev S2x1x32x1 : Shape := ⟨4, ![2, 1, 32, 1]⟩
abbrev S2x32x160x8192 : Shape := ⟨4, ![2, 32, 160, 8192]⟩
abbrev S2x8x4x1 : Shape := ⟨4, ![2, 8, 4, 1]⟩
abbrev S2x8x4x128 : Shape := ⟨4, ![2, 8, 4, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x8192x5120, .bf16⟩
  | .hbm, ⟨2, _⟩ => ⟨S2x8192x32x160, .bf16⟩
  | .hbm, ⟨3, _⟩ => ⟨S_, .f32⟩
  | .hbm, ⟨4, _⟩ => ⟨S2x32, .f32⟩
  | .hbm, ⟨5, _⟩ => ⟨S2x32, .f32⟩
  | .hbm, ⟨6, _⟩ => ⟨S2x1x32x1, .f32⟩
  | .hbm, ⟨7, _⟩ => ⟨S2x8192x32x160, .f32⟩
  | .hbm, ⟨8, _⟩ => ⟨S2x8192x32x160, .f32⟩
  | .hbm, ⟨9, _⟩ => ⟨S2x8192x32x160, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x32x160, .f32⟩
  | .hbm, ⟨14, _⟩ => ⟨S2x8192x32x160, .f32⟩
  | .hbm, ⟨15, _⟩ => ⟨S_, .f32⟩
  | .hbm, ⟨16, _⟩ => ⟨S2x8192x32x160, .f32⟩
  | .hbm, ⟨17, _⟩ => ⟨S2x8192x32x160, .f32⟩
  | .hbm, ⟨18, _⟩ => ⟨S2x8192x32x160, .fp8e4m3⟩
  | .hbm, ⟨19, _⟩ => ⟨S2x32x160x8192, .fp8e4m3⟩
  | .hbm, ⟨20, _⟩ => ⟨S2x8192x32x160, .f32⟩
  | .hbm, ⟨21, _⟩ => ⟨S2x8192x32x160, .f32⟩
  | .hbm, ⟨22, _⟩ => ⟨S_, .f32⟩
  | .hbm, ⟨23, _⟩ => ⟨S2x32, .f32⟩
  | .hbm, ⟨24, _⟩ => ⟨S2x8x4x1, .f32⟩
  | .hbm, ⟨25, _⟩ => ⟨S2x8x4x128, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== KvPrep.lean ====
abbrev S2x8 : Shape := ⟨2, ![2, 8]⟩
abbrev S2x8x160x8192 : Shape := ⟨4, ![2, 8, 160, 8192]⟩
abbrev S2x8x8192x256 : Shape := ⟨4, ![2, 8, 8192, 256]⟩
abbrev S2x8x1x128 : Shape := ⟨4, ![2, 8, 1, 128]⟩
abbrev S1x1x160x1024 : Shape := ⟨4, ![1, 1, 160, 1024]⟩
abbrev S1x1x1024x256 : Shape := ⟨4, ![1, 1, 1024, 256]⟩
abbrev S1x1x1x128 : Shape := ⟨4, ![1, 1, 1, 128]⟩
abbrev S160x1024 : Shape := ⟨2, ![160, 1024]⟩
abbrev S1x1 : Shape := ⟨2, ![1, 1]⟩
abbrev S1024x160 : Shape := ⟨2, ![1024, 160]⟩
abbrev S1024x96 : Shape := ⟨2, ![1024, 96]⟩
abbrev S1024x256 : Shape := ⟨2, ![1024, 256]⟩
abbrev S1024 : Shape := ⟨1, ![1024]⟩
abbrev S1x1024 : Shape := ⟨2, ![1, 1024]⟩
abbrev S1 : Shape := ⟨1, ![1]⟩
abbrev S1x128 : Shape := ⟨2, ![1, 128]⟩

abbrev nBuf : Space → Nat
  | .hbm => 9
  | .vmem => 14
  | .smem => 2
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8x160x8192, .bf16⟩
  | .hbm, ⟨3, _⟩ => ⟨S2x8x160x8192, .bf16⟩
  | .hbm, ⟨4, _⟩ => ⟨S2x8x160x8192, .fp8e4m3⟩
  | .hbm, ⟨5, _⟩ => ⟨S2x8x160x8192, .fp8e4m3⟩
  | .hbm, ⟨6, _⟩ => ⟨S2x8x8192x256, .fp8e4m3⟩
  | .hbm, ⟨7, _⟩ => ⟨S2x8x1x128, .f32⟩
  | .hbm, ⟨8, _⟩ => ⟨S2x8x1x128, .f32⟩
  | .local _ .vmem, ⟨0, _⟩ => ⟨S1x1x160x1024, .bf16⟩
  | .local _ .vmem, ⟨1, _⟩ => ⟨S1x1x160x1024, .bf16⟩
  | .local _ .vmem, ⟨2, _⟩ => ⟨S1x1x160x1024, .bf16⟩
  | .local _ .vmem, ⟨3, _⟩ => ⟨S1x1x160x1024, .bf16⟩
  | .local _ .vmem, ⟨4, _⟩ => ⟨S1x1x160x1024, .fp8e4m3⟩
  | .local _ .vmem, ⟨5, _⟩ => ⟨S1x1x160x1024, .fp8e4m3⟩
  | .local _ .vmem, ⟨6, _⟩ => ⟨S1x1x160x1024, .fp8e4m3⟩
  | .local _ .vmem, ⟨7, _⟩ => ⟨S1x1x160x1024, .fp8e4m3⟩
  | .local _ .vmem, ⟨8, _⟩ => ⟨S1x1x1024x256, .fp8e4m3⟩
  | .local _ .vmem, ⟨9, _⟩ => ⟨S1x1x1024x256, .fp8e4m3⟩
  | .local _ .vmem, ⟨10, _⟩ => ⟨S1x1x1x128, .f32⟩
  | .local _ .vmem, ⟨11, _⟩ => ⟨S1x1x1x128, .f32⟩
  | .local _ .vmem, ⟨12, _⟩ => ⟨S1x1x1x128, .f32⟩
  | .local _ .vmem, ⟨13, _⟩ => ⟨S1x1x1x128, .f32⟩
  | .local _ .smem, ⟨0, _⟩ => ⟨S2x8, .f32⟩
  | .local _ .smem, ⟨1, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 2 → Nat :=
  let arg0 : BitVec 32 := BitVec.ofNat 32 (i 0).val
  let v6 : Index := Scalar.indexCast arg0
  let arg1 : BitVec 32 := BitVec.ofNat 32 (i 1).val
  let v7 : Index := Scalar.indexCast arg1
  ![v6.toNat, v7.toNat]
def k0_cond1 (i : grid0.Coords) : BitVec 1 :=
  let arg2 : BitVec 32 := BitVec.ofNat 32 (i 2).val
  let c0_i32 : BitVec 32 := 0#32
  let v61 : BitVec 1 := Scalar.cmpi .eq arg2 c0_i32
  let v62 : BitVec 32 := Scalar.extui v61
  let c0_i32_31 : BitVec 32 := 0#32
  let v63 : BitVec 1 := Scalar.cmpi .ne v62 c0_i32_31
  v63

def k0_cond2 (i : grid0.Coords) : BitVec 1 :=
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .ne v65 c0_i32_33
  v66

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x160x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x160x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x160x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KvRefIdeal.lean ====
abbrev S2x8 : Shape := ⟨2, ![2, 8]⟩
abbrev S2x8x160x8192 : Shape := ⟨4, ![2, 8, 160, 8192]⟩
abbrev S2x8192x8x160 : Shape := ⟨4, ![2, 8192, 8, 160]⟩
abbrev S_ : Shape := ⟨0, ![]⟩
abbrev S2x1x8x1 : Shape := ⟨4, ![2, 1, 8, 1]⟩
abbrev S2x8x8192x160 : Shape := ⟨4, ![2, 8, 8192, 160]⟩
abbrev S2x8x8192x96 : Shape := ⟨4, ![2, 8, 8192, 96]⟩
abbrev S2x8x8192x256 : Shape := ⟨4, ![2, 8, 8192, 256]⟩
abbrev S2x8x1x1 : Shape := ⟨4, ![2, 8, 1, 1]⟩
abbrev S2x8x1x128 : Shape := ⟨4, ![2, 8, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8x160x8192, .bf16⟩
  | .hbm, ⟨3, _⟩ => ⟨S2x8x160x8192, .bf16⟩
  | .hbm, ⟨4, _⟩ => ⟨S2x8192x8x160, .bf16⟩
  | .hbm, ⟨5, _⟩ => ⟨S2x8192x8x160, .bf16⟩
  | .hbm, ⟨6, _⟩ => ⟨S_, .f32⟩
  | .hbm, ⟨7, _⟩ => ⟨S2x8, .f32⟩
  | .hbm, ⟨8, _⟩ => ⟨S2x8, .f32⟩
  | .hbm, ⟨9, _⟩ => ⟨S2x1x8x1, .f32⟩
  | .hbm, ⟨10, _⟩ => ⟨S2x8192x8x160, .f32⟩
  | .hbm, ⟨11, _⟩ => ⟨S2x8192x8x160, .f32⟩
  | .hbm, ⟨12, _⟩ => ⟨S2x8192x8x160, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x8192x8x160, .f32⟩
  | .hbm, ⟨17, _⟩ => ⟨S2x8192x8x160, .f32⟩
  | .hbm, ⟨18, _⟩ => ⟨S_, .f32⟩
  | .hbm, ⟨19, _⟩ => ⟨S2x8192x8x160, .f32⟩
  | .hbm, ⟨20, _⟩ => ⟨S2x8192x8x160, .f32⟩
  | .hbm, ⟨21, _⟩ => ⟨S2x8192x8x160, .fp8e4m3⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x1x8x1, .f32⟩
  | .hbm, ⟨26, _⟩ => ⟨S2x8192x8x160, .f32⟩
  | .hbm, ⟨27, _⟩ => ⟨S2x8192x8x160, .f32⟩
  | .hbm, ⟨28, _⟩ => ⟨S2x8192x8x160, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x8192x8x160, .f32⟩
  | .hbm, ⟨33, _⟩ => ⟨S2x8192x8x160, .f32⟩
  | .hbm, ⟨34, _⟩ => ⟨S_, .f32⟩
  | .hbm, ⟨35, _⟩ => ⟨S2x8192x8x160, .f32⟩
  | .hbm, ⟨36, _⟩ => ⟨S2x8192x8x160, .f32⟩
  | .hbm, ⟨37, _⟩ => ⟨S2x8192x8x160, .fp8e4m3⟩
  | .hbm, ⟨38, _⟩ => ⟨S_, .f32⟩
  | .hbm, ⟨39, _⟩ => ⟨S2x8, .f32⟩
  | .hbm, ⟨40, _⟩ => ⟨S2x8, .f32⟩
  | .hbm, ⟨41, _⟩ => ⟨S2x1x8x1, .f32⟩
  | .hbm, ⟨42, _⟩ => ⟨S2x8192x8x160, .f32⟩
  | .hbm, ⟨43, _⟩ => ⟨S2x8192x8x160, .f32⟩
  | .hbm, ⟨44, _⟩ => ⟨S2x8192x8x160, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x8192x8x160, .f32⟩
  | .hbm, ⟨49, _⟩ => ⟨S2x8192x8x160, .f32⟩
  | .hbm, ⟨50, _⟩ => ⟨S_, .f32⟩
  | .hbm, ⟨51, _⟩ => ⟨S2x8192x8x160, .f32⟩
  | .hbm, ⟨52, _⟩ => ⟨S2x8192x8x160, .f32⟩
  | .hbm, ⟨53, _⟩ => ⟨S2x8x8192x160, .f32⟩
  | .hbm, ⟨54, _⟩ => ⟨S_, .f32⟩
  | .hbm, ⟨55, _⟩ => ⟨S2x8x8192x96, .f32⟩
  | .hbm, ⟨56, _⟩ => ⟨S2x8x8192x256, .f32⟩
  | .hbm, ⟨57, _⟩ => ⟨S2x8x8192x256, .fp8e4m3⟩
  | .hbm, ⟨58, _⟩ => ⟨S2x8192x8x160, .f32⟩
  | .hbm, ⟨59, _⟩ => ⟨S2x8192x8x160, .f32⟩
  | .hbm, ⟨60, _⟩ => ⟨S_, .f32⟩
  | .hbm, ⟨61, _⟩ => ⟨S2x8, .f32⟩
  | .hbm, ⟨62, _⟩ => ⟨S2x8x1x1, .f32⟩
  | .hbm, ⟨63, _⟩ => ⟨S2x8x1x128, .f32⟩
  | .hbm, ⟨64, _⟩ => ⟨S2x8192x8x160, .f32⟩
  | .hbm, ⟨65, _⟩ => ⟨S2x8192x8x160, .f32⟩
  | .hbm, ⟨66, _⟩ => ⟨S_, .f32⟩
  | .hbm, ⟨67, _⟩ => ⟨S2x8, .f32⟩
  | .hbm, ⟨68, _⟩ => ⟨S2x8x1x1, .f32⟩
  | .hbm, ⟨69, _⟩ => ⟨S2x8x1x128, .f32⟩
  | .hbm, ⟨70, _⟩ => ⟨S2x8x160x8192, .fp8e4m3⟩
  | .hbm, ⟨71, _⟩ => ⟨S2x8x160x8192, .fp8e4m3⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.KLoops.lean ====
/-
  The two loops of the attention kernel that run: the one that stores the scores of the earlier key chunks and keeps
  their running maximum, and the one that adds up the weights and the weighted values.  Each invariant gives the
  contents of the buffer the loop writes, and the carried value, before trip `k`, by recursion on `k`.
-/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.LoopRemainder

@[expose] public section

set_option maxRecDepth 8192
set_option maxHeartbeats 4000000

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle of key chunk `k` in the key block, for the score loop. -/
abbrev rK (i : grid0.Coords) (k : Fin (k0_t1_loop i).trips) : Rect S1x1x8192x256 :=
  Rect.unit (s := S1x1x8192x256) (k0_off3 i k) S1x1x512x160.size (k0_off3_inb i k)
/-- The rectangle of key chunk `k` in the score scratch, where the score loop stores. -/
abbrev rS (i : grid0.Coords) (k : Fin (k0_t1_loop i).trips) : Rect S8192x512 :=
  Rect.unit (s := S8192x512) (k0_off4 i k) S512x512.size (k0_off4_inb i k)
/-- The rectangle of key chunk `k` in the score scratch, where the value loop loads. -/
abbrev rS' (i : grid0.Coords) (k : Fin (k0_t3_loop i).trips) : Rect S8192x512 :=
  Rect.unit (s := S8192x512) (k0_off9 i k) S512x512.size (k0_off9_inb i k)
/-- The rectangle of key chunk `k` in the value block. -/
abbrev rV (i : grid0.Coords) (k : Fin (k0_t3_loop i).trips) : Rect S1x1x160x8192 :=
  Rect.unit (s := S1x1x160x8192) (k0_off10 i k) S1x1x160x512.size (k0_off10_inb i k)
/-- The whole of the accumulator scratch. -/
abbrev rA : Rect S160x512 := Rect.unit (s := S160x512) ![0, 0] S160x512.size inb_S160x512_S160x512_0_0

/-- The contents of the score scratch before trip `n`, and the running maximum carried into it. -/
def st1 (i : grid0.Coords) (arg7 : Memref sig .tc .vmem S1x1x8192x256 .fp8e4m3) (arg11 : Memref sig .tc .vmem S8192x512 .f32)
    (v30 : FVec F S160x512 .fp8e4m3) (X7 : BufTy.Contents (Elt F) arg7.view.ty) (G : BufTy.Contents (Elt F) arg11.view.ty)
    (init : FVec F S8x512 .f32) : ℕ → BufTy.Contents (Elt F) arg11.view.ty × FVec F S8x512 .f32
  | 0 => (G, init)
  | n + 1 =>
    let s := st1 i arg7 arg11 v30 X7 G init n
    if h : n < (k0_t1_loop i).trips then
      (arg11.view.writes (Elt F) s.1 [⟨rS i ⟨n, h⟩, k0_pay13 v30 (arg7.view.readAt (Elt F) (rK i ⟨n, h⟩).toLoadRect X7)⟩],
        k0_pay14 v30 s.2 (arg7.view.readAt (Elt F) (rK i ⟨n, h⟩).toLoadRect X7))
    else s

theorem st1_succ (i : grid0.Coords) (arg7 : Memref sig .tc .vmem S1x1x8192x256 .fp8e4m3) (arg11 : Memref sig .tc .vmem S8192x512 .f32)
    (v30 : FVec F S160x512 .fp8e4m3) (X7 : BufTy.Contents (Elt F) arg7.view.ty) (G : BufTy.Contents (Elt F) arg11.view.ty)
    (init : FVec F S8x512 .f32) (k : Fin (k0_t1_loop i).trips) :
    st1 i arg7 arg11 v30 X7 G init (k + 1) =
      (arg11.view.writes (Elt F) (st1 i arg7 arg11 v30 X7 G init k).1
          [⟨rS i k, k0_pay13 v30 (arg7.view.readAt (Elt F) (rK i k).toLoadRect X7)⟩],
        k0_pay14 v30 (st1 i arg7 arg11 v30 X7 G init k).2 (arg7.view.readAt (Elt F) (rK i k).toLoadRect X7)) := by
  rw [st1, dif_pos k.isLt]

/-- The accumulator scratch as the zero store leaves it. -/
abbrev zero12 (arg12 : Memref sig .tc .vmem S160x512 .f32) : BufTy.Contents (Elt F) arg12.view.ty :=
  arg12.view.writes (Elt F) arg12.view.junk [⟨rA, k0_pay25⟩]

/-- The contents of the accumulator scratch before trip `n`, and the weight sum carried into it. -/
def st3 (i : grid0.Coords) (arg8 : Memref sig .tc .vmem S1x1x160x8192 .fp8e4m3) (arg11 : Memref sig .tc .vmem S8192x512 .f32)
    (arg12 : Memref sig .tc .vmem S160x512 .f32)
    (v79 : FVec F S1x512 .f32) (v87 : FVec F S8x512 .f32) (v93 : FVec F S512x512 .f32) (v97 : IVec S512x512 32) (v114 : IVec S512x512 32) (v115 : IVec S512x512 32)
    (X8 : BufTy.Contents (Elt F) arg8.view.ty) (X11 : BufTy.Contents (Elt F) arg11.view.ty) (G : BufTy.Contents (Elt F) arg12.view.ty)
    (init : FVec F S8x512 .f32) : ℕ → BufTy.Contents (Elt F) arg12.view.ty × FVec F S8x512 .f32
  | 0 => (G, init)
  | n + 1 =>
    let s := st3 i arg8 arg11 arg12 v79 v87 v93 v97 v114 v115 X8 X11 G init n
    if h : n < (k0_t3_loop i).trips then
      (arg12.view.writes (Elt F) s.1 [⟨rA, k0_pay29 v79 v87 v93 v97 v114 v115 (arg11.view.readAt (Elt F) (rS' i ⟨n, h⟩).toLoadRect X11)
          (arg12.view.readAt (Elt F) rA.toLoadRect s.1) (arg8.view.readAt (Elt F) (rV i ⟨n, h⟩).toLoadRect X8)⟩],
        k0_pay28 v79 v87 v93 v97 v114 v115 s.2 (arg11.view.readAt (Elt F) (rS' i ⟨n, h⟩).toLoadRect X11))
    else s

theorem st3_succ (i : grid0.Coords) (arg8 : Memref sig .tc .vmem S1x1x160x8192 .fp8e4m3) (arg11 : Memref sig .tc .vmem S8192x512 .f32)
    (arg12 : Memref sig .tc .vmem S160x512 .f32)
    (v79 : FVec F S1x512 .f32) (v87 : FVec F S8x512 .f32) (v93 : FVec F S512x512 .f32) (v97 : IVec S512x512 32) (v114 : IVec S512x512 32) (v115 : IVec S512x512 32)
    (X8 : BufTy.Contents (Elt F) arg8.view.ty) (X11 : BufTy.Contents (Elt F) arg11.view.ty) (G : BufTy.Contents (Elt F) arg12.view.ty)
    (init : FVec F S8x512 .f32) (k : Fin (k0_t3_loop i).trips) :
    st3 i arg8 arg11 arg12 v79 v87 v93 v97 v114 v115 X8 X11 G init (k + 1) =
      (arg12.view.writes (Elt F) (st3 i arg8 arg11 arg12 v79 v87 v93 v97 v114 v115 X8 X11 G init k).1
          [⟨rA, k0_pay29 v79 v87 v93 v97 v114 v115 (arg11.view.readAt (Elt F) (rS' i k).toLoadRect X11)
            (arg12.view.readAt (Elt F) rA.toLoadRect (st3 i arg8 arg11 arg12 v79 v87 v93 v97 v114 v115 X8 X11 G init k).1)
            (arg8.view.readAt (Elt F) (rV i k).toLoadRect X8)⟩],
        k0_pay28 v79 v87 v93 v97 v114 v115 (st3 i arg8 arg11 arg12 v79 v87 v93 v97 v114 v115 X8 X11 G init k).2
          (arg11.view.readAt (Elt F) (rS' i k).toLoadRect X11)) := by
  rw [st3, dif_pos k.isLt]

variable (𝒱 : Variants) (c : Dev nD) (bd : Option 𝒱.V) (E : Set ℕ) (i : grid0.Coords) (arg3 : Memref sig .tc .smem S2x32 .f32) (harg3 : arg3.IsWhole) (arg4 : Memref sig .tc .smem S2x8 .f32) (harg4 : arg4.IsWhole) (arg5 : Memref sig .tc .smem S2x8 .f32) (harg5 : arg5.IsWhole) (arg6 : Memref sig .tc .vmem S1x4x160x128 .fp8e4m3) (harg6 : arg6.IsWhole) (arg7 : Memref sig .tc .vmem S1x1x8192x256 .fp8e4m3) (harg7 : arg7.IsWhole) (arg8 : Memref sig .tc .vmem S1x1x160x8192 .fp8e4m3) (harg8 : arg8.IsWhole) (arg9 : Memref sig .tc .vmem S1x128x640 .bf16) (harg9 : arg9.IsWhole) (arg10 : Memref sig .tc .vmem S1x1x4x128 .f32) (harg10 : arg10.IsWhole) (arg11 : Memref sig .tc .vmem S8192x512 .f32) (harg11 : arg11.IsWhole) (arg12 : Memref sig .tc .vmem S160x512 .f32) (harg12 : arg12.IsWhole)

set_option warn.classDefReducibility false in
/-- The score loop: the keys stay, the score scratch is at `st1`, the carried maximum too. -/
@[sl_loop] def inv1 (v0 : BitVec 32) (v21 : BitVec 32) (v30 : FVec F S160x512 .fp8e4m3) (v41 : F .f32) (v52 : F .f32) (v63 : F .f32) (v73 : F .f32)
    (X7 : BufTy.Contents (Elt F) arg7.view.ty) (G : BufTy.Contents (Elt F) arg11.view.ty) (init : FVec F S8x512 .f32) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) init (k0_t1_body (F := F) i arg3 harg3 arg4 harg4 arg5 harg5 arg6 harg6 arg7 harg7 arg8 harg8 arg9 harg9 arg10 harg10 arg11 harg11 arg12 harg12 v0 v21 v30 v41 v52 v63 v73) where
  inv k acc := iprop((arg7.view.loc (c : Thread nD τ) ↦[arg7.view.set]{fullShare} X7)
    ∗ (∃ f, (arg11.view.loc (c : Thread nD τ) ↦[arg11.view.set]{fullShare} f) ∗ ⌜f = (st1 i arg7 arg11 v30 X7 G init k).1⌝)
    ∗ ⌜acc = (st1 i arg7 arg11 v30 X7 G init k).2⌝)
  step k acc := by
    iintro ⟨H7, ⟨%f, H11, %hf⟩, %hacc⟩
    subst hf hacc
    rw [st1_succ]
    unfold k0_t1_body
    sl_exec
    sl_step
    isplitl [H7]; · iexact H7
    isplitl [H11]
    · iexists _; isplitl [H11]; · iexact H11
      ipureintro; rfl
    ipureintro; rfl

set_option warn.classDefReducibility false in
/-- The value loop: the values and the scores stay, the accumulator scratch is at `st3`, the carried weight sum too. -/
@[sl_loop] def inv3 (arg0 : BitVec 32) (arg1 : BitVec 32) (v20 : BitVec 32) (v79 : FVec F S1x512 .f32) (v87 : FVec F S8x512 .f32) (v89 : BitVec 32) (v93 : FVec F S512x512 .f32) (v97 : IVec S512x512 32) (v114 : IVec S512x512 32) (v115 : IVec S512x512 32)
    (X8 : BufTy.Contents (Elt F) arg8.view.ty) (X11 : BufTy.Contents (Elt F) arg11.view.ty) (init : FVec F S8x512 .f32) :
    Idealize.ShloMosaic.LoopInv (M := 𝕄) Idealize.ShloMosaic.frame (wpE defs₀ 𝒱 (c : Thread nD τ) bd) E
      (k0_t3_loop i).lb (k0_t3_loop i).ub (k0_t3_loop i).st (k0_t3_ok i) init (k0_t3_body (F := F) i arg3 harg3 arg4 harg4 arg5 harg5 arg6 harg6 arg7 harg7 arg8 harg8 arg9 harg9 arg10 harg10 arg11 harg11 arg12 harg12 arg0 arg1 v20 v79 v87 v89 v93 v97 v114 v115) where
  inv k acc := iprop((arg8.view.loc (c : Thread nD τ) ↦[arg8.view.set]{fullShare} X8)
    ∗ (arg11.view.loc (c : Thread nD τ) ↦[arg11.view.set]{fullShare} X11)
    ∗ (∃ f, (arg12.view.loc (c : Thread nD τ) ↦[arg12.view.set]{fullShare} f) ∗ ⌜f = (st3 i arg8 arg11 arg12 v79 v87 v93 v97 v114 v115 X8 X11 (zero12 arg12) init k).1⌝)
    ∗ ⌜acc = (st3 i arg8 arg11 arg12 v79 v87 v93 v97 v114 v115 X8 X11 (zero12 arg12) init k).2⌝)
  step k acc := by
    iintro ⟨H8, H11, ⟨%f, H12, %hf⟩, %hacc⟩
    subst hf hacc
    rw [st3_succ]
    unfold k0_t3_body
    sl_exec
    sl_step
    isplitl [H8]; · iexact H8
    isplitl [H11]; · iexact H11
    isplitl [H12]
    · iexists _; isplitl [H12]; · iexact H12
      ipureintro; rfl
    ipureintro; rfl

end Cert.Proof.Kernel

end
-- ==== Proof.KVal.lean ====
/-
  What the attention kernel's body computes at one grid point, as functions of the blocks it reads: the scores of
  each key chunk, the running maximum, the accumulator and the weight sum, the output block and the head maxima.
  Then the loops' contents (`st1`, `st3`) read as these functions.
-/
module

public import proofs.«01_k».proof.Proof.KLoops
public import Idealize.ShloMosaic.Lib.Pipeline.FrameBody
public import Mathlib.Tactic.IntervalCases
public import Mathlib.Tactic.FinCases

@[expose] public section

set_option maxRecDepth 8192
set_option maxHeartbeats 1000000

noncomputable section

namespace Cert.Proof.Kernel

open Cert.Kernel Cert.Kernel.Gen

open Idealize.ShloMosaic Idealize.ShloMosaic.TcCoe

variable {F : FTy → Type} [FloatOps F]

/-! ## Trip counts -/

/-- The number of key chunks the query block of point `i` reads. -/
def nch (i : grid0.Coords) : ℕ := (128 * (i 2).val + 639) / 512

theorem trips1 (i : grid0.Coords) : (k0_t1_loop i).trips = nch i - 1 := by
  unfold nch k0_t1_loop
  have h : (i 2).val < 64 := (i 2).isLt
  generalize (i 2).val = n at h ⊢
  interval_cases n <;> decide

theorem trips3 (i : grid0.Coords) : (k0_t3_loop i).trips = nch i := by
  unfold nch k0_t3_loop
  have h : (i 2).val < 64 := (i 2).isLt
  generalize (i 2).val = n at h ⊢
  interval_cases n <;> decide

theorem nch_pos (i : grid0.Coords) : 0 < nch i := by unfold nch; omega
theorem nch_le (i : grid0.Coords) : nch i ≤ 16 := by
  have h : (i 2).val < 64 := (i 2).isLt
  unfold nch; omega

/-! ## The body's values -/

/-- The last chunk's rectangle in the key block. -/
abbrev rKl (i : grid0.Coords) : Rect S1x1x8192x256 :=
  Rect.unit (s := S1x1x8192x256) (k0_off7 i) S1x1x512x160.size (k0_off7_inb i)
/-- The last chunk's rectangle in the score scratch. -/
abbrev rSl (i : grid0.Coords) : Rect S8192x512 :=
  Rect.unit (s := S8192x512) (k0_off8 i) S512x512.size (k0_off8_inb i)

/-- The four heads' queries side by side. -/
def q30 (x6 : Vec F S1x4x160x128 .fp8e4m3) : FVec F S160x512 .fp8e4m3 :=
  k0_pay5 (k0_pay2 (View.ld x6 (Rect.unit (s := S1x4x160x128) ![0, 0, 0, 0] S1x1x160x128.size inb_S1x4x160x128_S1x1x160x128_0_0_0_0)))
    (k0_pay3 (View.ld x6 (Rect.unit (s := S1x4x160x128) ![0, 1, 0, 0] S1x1x160x128.size inb_S1x4x160x128_S1x1x160x128_0_1_0_0)))
    (k0_pay4 (View.ld x6 (Rect.unit (s := S1x4x160x128) ![0, 2, 0, 0] S1x1x160x128.size inb_S1x4x160x128_S1x1x160x128_0_2_0_0)))
    (View.ld x6 (Rect.unit (s := S1x4x160x128) ![0, 3, 0, 0] S1x1x160x128.size inb_S1x4x160x128_S1x1x160x128_0_3_0_0))

theorem one_S1x1 : 0 < S1x1.numel := by rw [numel1_S1x1]; exact Nat.one_pos

/-- The scale of query head `r` of the point's group. -/
def sq (i : grid0.Coords) (x3 : Vec F S2x32 .f32) (r : Fin 4) : F .f32 :=
  View.ld x3 (Rect.unit (s := S2x32) (k0_off1 i (BitVec.ofNat 32 r.val)) S1x1.size (k0_off1_inb i r)) (Shape.Idx.first one_S1x1)
/-- The scale of the point's group in an array of scales by group. -/
def sg (i : grid0.Coords) (x : Vec F S2x8 .f32) : F .f32 :=
  View.ld x (Rect.unit (s := S2x8) (k0_off2 i) S1x1.size (k0_off2_inb i)) (Shape.Idx.first one_S1x1)

/-- The exponents' factor by column. -/
def c79 (i : grid0.Coords) (x3 : Vec F S2x32 .f32) (x4 : Vec F S2x8 .f32) : FVec F S1x512 .f32 :=
  k0_pay10 (k0_pay6 (sq i x3 0) (sg i x4)) (k0_pay7 (sq i x3 1) (sg i x4)) (k0_pay8 (sq i x3 2) (sg i x4)) (k0_pay9 (sq i x3 3) (sg i x4))

/-- The running maximum before chunk `n`. -/
def mx (i : grid0.Coords) (x6 : Vec F S1x4x160x128 .fp8e4m3) (x7 : Vec F S1x1x8192x256 .fp8e4m3) : ℕ → FVec F S8x512 .f32
  | 0 => k0_pay11
  | n + 1 => if h : n < (k0_t1_loop i).trips then k0_pay14 (q30 x6) (mx i x6 x7 n) (View.ld x7 (rK i ⟨n, h⟩)) else mx i x6 x7 n

/-- The word of the first query of the block. -/
def w0 (i : grid0.Coords) : BitVec 32 := Scalar.muli (BitVec.ofNat 32 (i 2).val) 128#32

/-- The word of the last chunk's number. -/
def w21 (i : grid0.Coords) : BitVec 32 :=
  let v3 : BitVec 32 := Scalar.subi (Scalar.addi (Scalar.addi (w0 i) 128#32) 512#32) 1#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 512#32 0#32)) (Scalar.extui (Scalar.cmpi .slt 512#32 0#32))
  let v15 : BitVec 1 := Scalar.cmpi .ne v9 v14
  let v17 : BitVec 1 := Scalar.cmpi .ne (Scalar.remsi v3 512#32) 0#32
  let v18 : BitVec 1 := Scalar.andi v15 v17
  let v20 : BitVec 32 := Scalar.select v18 (Scalar.subi v4 1#32) v4
  Scalar.subi v20 1#32

section Point

variable (i : grid0.Coords) (x3 : Vec F S2x32 .f32) (x4 : Vec F S2x8 .f32) (x5 : Vec F S2x8 .f32) (x6 : Vec F S1x4x160x128 .fp8e4m3)
  (x7 : Vec F S1x1x8192x256 .fp8e4m3) (x8 : Vec F S1x1x160x8192 .fp8e4m3)

/-- The last chunk's scores. -/
def v93 : FVec F S512x512 .f32 := k0_pay18 (q30 x6) (View.ld x7 (rKl i))

/-- The scores of chunk `j`, the last chunk's masked. -/
def sc (j : ℕ) : FVec F S512x512 .f32 :=
  if h : j < (k0_t1_loop i).trips then k0_pay13 (q30 x6) (View.ld x7 (rK i ⟨j, h⟩))
  else k0_pay23 (v93 i x6 x7) (k0_pay19 (w21 i)) k0_pay20 (k0_pay21 (w0 i))

/-- The accumulator and the weight sum before chunk `n`. -/
def acc : ℕ → Vec F S160x512 .f32 × FVec F S8x512 .f32
  | 0 => (k0_pay25, k0_pay26)
  | n + 1 => if h : n < (k0_t3_loop i).trips then
      (k0_pay29 (c79 i x3 x4) (mx i x6 x7 (k0_t1_loop i).trips) (v93 i x6 x7) (k0_pay19 (w21 i)) k0_pay20 (k0_pay21 (w0 i)) (sc i x6 x7 n)
          (acc n).1 (View.ld x8 (rV i ⟨n, h⟩)),
        k0_pay28 (c79 i x3 x4) (mx i x6 x7 (k0_t1_loop i).trips) (v93 i x6 x7) (k0_pay19 (w21 i)) k0_pay20 (k0_pay21 (w0 i)) (acc n).2 (sc i x6 x7 n))
    else acc n

/-- The normalised output, columns by head and query. -/
def v151 : FVec F S160x512 .f32 :=
  k0_pay33 (acc i x3 x4 x6 x7 x8 (k0_t3_loop i).trips).2 (acc i x3 x4 x6 x7 x8 (k0_t3_loop i).trips).1 (sg i x5)

/-- The output block. -/
def outv : FVec F S1x128x640 .bf16 :=
  k0_pay39 (v151 i x3 x4 x5 x6 x7 x8)
    (k0_pay34 (acc i x3 x4 x6 x7 x8 (k0_t3_loop i).trips).2 (acc i x3 x4 x6 x7 x8 (k0_t3_loop i).trips).1 (sg i x5))

/-- The first head's maximum. -/
def v156 : FVec F S1 .f32 :=
  k0_pay35 (acc i x3 x4 x6 x7 x8 (k0_t3_loop i).trips).2 (acc i x3 x4 x6 x7 x8 (k0_t3_loop i).trips).1 (sg i x5)

/-- The heads' maxima as the first query block stores them. -/
def oav : FVec F S1x1x4x128 .f32 := k0_pay41 (v151 i x3 x4 x5 x6 x7 x8) (v156 i x3 x4 x5 x6 x7 x8)

/-- The heads' maxima joined to the earlier blocks' `y`. -/
def oamv (y : Vec F S1x1x4x128 .f32) : FVec F S1x1x4x128 .f32 :=
  k0_pay1 (k0_pay40 (v151 i x3 x4 x5 x6 x7 x8) (v156 i x3 x4 x5 x6 x7 x8)) y

end Point

/-! ## The loops' contents are these values -/

section Loops

variable (i : grid0.Coords) (arg7 : Memref sig .tc .vmem S1x1x8192x256 .fp8e4m3) (arg8 : Memref sig .tc .vmem S1x1x160x8192 .fp8e4m3)
  (arg11 : Memref sig .tc .vmem S8192x512 .f32) (arg12 : Memref sig .tc .vmem S160x512 .f32)
  (f7 : BufTy.Contents (Elt F) arg7.view.ty) (f8 : BufTy.Contents (Elt F) arg8.view.ty) (f11 : BufTy.Contents (Elt F) arg11.view.ty)
  (x3 : Vec F S2x32 .f32) (x4 : Vec F S2x8 .f32) (x6 : Vec F S1x4x160x128 .fp8e4m3)

theorem st1_snd (n : ℕ) :
    (st1 i arg7 arg11 (q30 x6) f7 f11 k0_pay11 n).2 = mx i x6 (arg7.view.read (Elt F) f7) n := by
  induction n with
  | zero => rfl
  | succ n ih =>
    rw [st1, mx]
    by_cases h : n < (k0_t1_loop i).trips
    · rw [dif_pos h, dif_pos h, ← ih]; rfl
    · rw [dif_neg h, dif_neg h]; exact ih

/-- Before trip `n`, every earlier chunk of the score scratch is read as it was stored. -/
theorem st1_fst (n j : ℕ) (hj : j < n) (h : j < (k0_t1_loop i).trips) (h3 : j < (k0_t3_loop i).trips) :
    arg11.view.readAt (Elt F) (rS' i ⟨j, h3⟩).toLoadRect (st1 i arg7 arg11 (q30 x6) f7 f11 k0_pay11 n).1
      = k0_pay13 (q30 x6) (View.ld (arg7.view.read (Elt F) f7) (rK i ⟨j, h⟩)) := by
  induction n with
  | zero => omega
  | succ n ih =>
    rw [st1]
    by_cases hn : n < (k0_t1_loop i).trips
    · rw [dif_pos hn]
      funext x
      show arg11.view.read (Elt F) _ ((rS' i ⟨j, h3⟩).emb x) = _
      by_cases hjn : j = n
      · subst hjn
        dsimp only
        rw [View.read_writes_cons_hit_of_coords arg11.view _ (rS i ⟨j, hn⟩) _ _ x]
        · rfl
        · intro a
          show (k0_off9 i ⟨j, h3⟩) a + 1 * (x a).val = (k0_off4 i ⟨j, hn⟩) a + 1 * (x a).val
          rw [k0_off9_eq, k0_off4_eq]
      · rw [View.read_writes_cons_miss_of_axis _ _ _ _ _ (0 : Fin 2) (512 * n) 512]
        · exact congrFun (ih (by omega)) x
        · show (k0_off4 i ⟨n, hn⟩) 0 = _
          rw [k0_off4_eq]; rfl
        · rfl
        · rfl
        · left
          show (k0_off9 i ⟨j, h3⟩) 0 + 1 * (x 0).val < _
          rw [k0_off9_eq]
          have : (x (0 : Fin 2)).val < 512 := (x (0 : Fin 2)).isLt
          show 512 * j + 1 * (x (0 : Fin 2)).val < _
          omega
    · rw [dif_neg hn]; exact ih (by omega)

/-- The score scratch when the value loop starts: every chunk holds its scores. -/
theorem x11_read (j : ℕ) (h3 : j < (k0_t3_loop i).trips) :
    arg11.view.readAt (Elt F) (rS' i ⟨j, h3⟩).toLoadRect
        (arg11.view.writes (Elt F) (st1 i arg7 arg11 (q30 x6) f7 f11 k0_pay11 (k0_t1_loop i).trips).1
          [⟨rSl i, k0_pay23 (v93 i x6 (arg7.view.read (Elt F) f7)) (k0_pay19 (w21 i)) k0_pay20 (k0_pay21 (w0 i))⟩])
      = sc i x6 (arg7.view.read (Elt F) f7) j := by
  have h3' := h3
  rw [trips3] at h3'
  have hp := nch_pos i
  unfold sc
  funext x
  show arg11.view.read (Elt F) _ ((rS' i ⟨j, h3⟩).emb x) = _
  by_cases h : j < (k0_t1_loop i).trips
  · rw [dif_pos h, View.read_writes_cons_miss_of_axis _ _ _ _ _ (0 : Fin 2) (512 * ((128 * (i 2).val + 639) / 512) - 512) 512]
    · exact congrFun (st1_fst i arg7 arg11 f7 f11 x6 _ j h h h3) x
    · show (k0_off8 i) 0 = _
      rw [k0_off8_eq]; rfl
    · rfl
    · rfl
    · left
      show (k0_off9 i ⟨j, h3⟩) 0 + 1 * (x 0).val < _
      rw [k0_off9_eq]
      have : (x (0 : Fin 2)).val < 512 := (x (0 : Fin 2)).isLt
      rw [trips1] at h; unfold nch at h
      show 512 * j + 1 * (x (0 : Fin 2)).val < _
      omega
  · rw [dif_neg h, View.read_writes_cons_hit_of_coords arg11.view _ (rSl i) _ _ x]
    intro a
    show (k0_off9 i ⟨j, h3⟩) a + 1 * (x a).val = (k0_off8 i) a + 1 * (x a).val
    rw [k0_off9_eq, k0_off8_eq]
    rw [trips1] at h; unfold nch at h h3' hp
    have e : 512 * j = 512 * ((128 * (i 2).val + 639) / 512) - 512 := by omega
    show (![512 * j, 0] : Fin 2 → ℕ) a + _ = _
    rw [e]

/-- The accumulator scratch and the weight sum before trip `n` of the value loop. -/
theorem st3_eq (X11 : BufTy.Contents (Elt F) arg11.view.ty)
    (hX : ∀ (j : ℕ) (h3 : j < (k0_t3_loop i).trips),
      arg11.view.readAt (Elt F) (rS' i ⟨j, h3⟩).toLoadRect X11 = sc i x6 (arg7.view.read (Elt F) f7) j) (n : ℕ) :
    let s := st3 i arg8 arg11 arg12 (c79 i x3 x4) (mx i x6 (arg7.view.read (Elt F) f7) (k0_t1_loop i).trips) (v93 i x6 (arg7.view.read (Elt F) f7))
      (k0_pay19 (w21 i)) k0_pay20 (k0_pay21 (w0 i)) f8 X11 (zero12 arg12) k0_pay26 n
    arg12.view.readAt (Elt F) rA.toLoadRect s.1 = (acc i x3 x4 x6 (arg7.view.read (Elt F) f7) (arg8.view.read (Elt F) f8) n).1
      ∧ s.2 = (acc i x3 x4 x6 (arg7.view.read (Elt F) f7) (arg8.view.read (Elt F) f8) n).2 := by
  have hit : ∀ (g : BufTy.Contents (Elt F) arg12.view.ty) (w : Vec F S160x512 .f32),
      arg12.view.readAt (Elt F) rA.toLoadRect (arg12.view.writes (Elt F) g [⟨rA, w⟩]) = w := fun g w => by
    funext x
    exact View.read_writes_cons_emb arg12.view g rA w [] x
  induction n with
  | zero => exact ⟨hit _ _, rfl⟩
  | succ n ih =>
    intro s
    simp only [s]
    rw [st3, acc]
    by_cases hn : n < (k0_t3_loop i).trips
    · rw [dif_pos hn, dif_pos hn]
      obtain ⟨h1, h2⟩ := ih
      refine ⟨?_, ?_⟩
      · rw [hit, hX n hn, h1]; rfl
      · dsimp only; rw [hX n hn, h2]
    · rw [dif_neg hn, dif_neg hn]; exact ih

end Loops

end Cert.Proof.Kernel

end
-- ==== Proof.KRun.lean ====
/-
  The attention kernel's body run at symbolic operands and a symbolic grid point: once for the first query block of a
  group (the head maxima are stored) and once for a later one (they are joined to the earlier blocks').
-/
module

public import proofs.«01_k».proof.Proof.KVal

@[expose] public section

set_option maxRecDepth 8192
set_option maxHeartbeats 4000000

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords) (arg3 : Memref sig .tc .smem S2x32 .f32) (harg3 : arg3.IsWhole) (arg4 : Memref sig .tc .smem S2x8 .f32) (harg4 : arg4.IsWhole) (arg5 : Memref sig .tc .smem S2x8 .f32) (harg5 : arg5.IsWhole) (arg6 : Memref sig .tc .vmem S1x4x160x128 .fp8e4m3) (harg6 : arg6.IsWhole) (arg7 : Memref sig .tc .vmem S1x1x8192x256 .fp8e4m3) (harg7 : arg7.IsWhole) (arg8 : Memref sig .tc .vmem S1x1x160x8192 .fp8e4m3) (harg8 : arg8.IsWhole) (arg9 : Memref sig .tc .vmem S1x128x640 .bf16) (harg9 : arg9.IsWhole) (arg10 : Memref sig .tc .vmem S1x1x4x128 .f32) (harg10 : arg10.IsWhole) (arg11 : Memref sig .tc .vmem S8192x512 .f32) (harg11 : arg11.IsWhole) (arg12 : Memref sig .tc .vmem S160x512 .f32) (harg12 : arg12.IsWhole)

/-- Memref `M`'s buffer on core `c` held whole at `f`. -/
abbrev pt {sp : Space} {S : Shape} {e : EltTy} (M : Memref sig .tc sp S e) (f : BufTy.Contents (Elt F) M.view.ty) : sProp 𝕄 :=
  (M.view.loc (c : Thread nD τ) ↦[M.view.set]{fullShare} f)

section Readouts

variable (arg3 : Memref sig .tc .smem S2x32 .f32) (arg4 : Memref sig .tc .smem S2x8 .f32) (arg5 : Memref sig .tc .smem S2x8 .f32)
  (arg7 : Memref sig .tc .vmem S1x1x8192x256 .fp8e4m3) (arg8 : Memref sig .tc .vmem S1x1x160x8192 .fp8e4m3)
  (arg11 : Memref sig .tc .vmem S8192x512 .f32) (arg12 : Memref sig .tc .vmem S160x512 .f32)
  (f7 : BufTy.Contents (Elt F) arg7.view.ty) (f8 : BufTy.Contents (Elt F) arg8.view.ty) (f11 : BufTy.Contents (Elt F) arg11.view.ty)
  (x3 : Vec F S2x32 .f32) (x4 : Vec F S2x8 .f32) (x6 : Vec F S1x4x160x128 .fp8e4m3)

/-- What the value loop leaves, from the score scratch as the maximum loop left it. -/
abbrev fin3 :=
  st3 i arg8 arg11 arg12 (c79 i x3 x4) (st1 i arg7 arg11 (q30 x6) f7 f11 k0_pay11 (k0_t1_loop i).trips).2 (v93 i x6 (arg7.view.read (Elt F) f7))
    (k0_pay19 (w21 i)) k0_pay20 (k0_pay21 (w0 i)) f8
    (arg11.view.writes (Elt F) (st1 i arg7 arg11 (q30 x6) f7 f11 k0_pay11 (k0_t1_loop i).trips).1
      [⟨rSl i, k0_pay23 (v93 i x6 (arg7.view.read (Elt F) f7)) (k0_pay19 (w21 i)) k0_pay20 (k0_pay21 (w0 i))⟩])
    (zero12 arg12) k0_pay26 (k0_t3_loop i).trips

theorem fin3_eq :
    arg12.view.readAt (Elt F) rA.toLoadRect (fin3 i arg7 arg8 arg11 arg12 f7 f8 f11 x3 x4 x6).1
        = (acc i x3 x4 x6 (arg7.view.read (Elt F) f7) (arg8.view.read (Elt F) f8) (k0_t3_loop i).trips).1
      ∧ (fin3 i arg7 arg8 arg11 arg12 f7 f8 f11 x3 x4 x6).2
        = (acc i x3 x4 x6 (arg7.view.read (Elt F) f7) (arg8.view.read (Elt F) f8) (k0_t3_loop i).trips).2 := by
  unfold fin3
  rw [st1_snd]
  exact st3_eq i arg7 arg8 arg11 arg12 f7 f8 x3 x4 x6 _ (fun j h => x11_read i arg7 arg11 f7 f11 x6 j h) _

/-- A write of a whole memref, read back. -/
theorem read_full {sp : Space} {S : Shape} {e : EltTy} (M : Memref sig .tc sp S e) (f : BufTy.Contents (Elt F) M.view.ty) (r : Rect S)
    (h0 : ∀ a, r.off a = 0) (h1 : ∀ a, r.stride a = 1) (hs : r.size = S.size) (w : Vec F S e) (w' : r.shape.Idx → Elt F e)
    (hw : ∀ (x : r.shape.Idx) (y : S.Idx), (∀ a, (y a).val = (x a).val) → w' x = w y) :
    M.view.read (Elt F) (M.view.writes (Elt F) f [⟨r, w'⟩]) = w := by
  funext y
  rw [View.read_writes_cons_hit_of_coords M.view f r w' [] (fun a => ⟨(y a).val, by
    show (y a).val < r.size a
    rw [hs]; exact (y a).isLt⟩) y (fun a => by rw [h0, h1]; simp)]
  exact hw _ _ fun _ => rfl

end Readouts

/-- The first query block of a group. -/
theorem run_first (hc1 : k0_cond1 i = 1#1) (hc2 : ¬ k0_cond2 i = 1#1)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty)
    (f12 : BufTy.Contents (Elt F) arg12.view.ty) (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗
       (iprop(pt c arg3 f3 ∗ pt c arg4 f4 ∗ pt c arg5 f5 ∗ pt c arg6 f6 ∗ pt c arg7 f7 ∗ pt c arg8 f8
        ∗ (∃ f, ⌜arg9.view.read (Elt F) f = outv i (arg3.view.read (Elt F) f3) (arg4.view.read (Elt F) f4) (arg5.view.read (Elt F) f5)
              (arg6.view.read (Elt F) f6) (arg7.view.read (Elt F) f7) (arg8.view.read (Elt F) f8)⌝ ∗ pt c arg9 f)
        ∗ (∃ f, ⌜arg10.view.read (Elt F) f = oav i (arg3.view.read (Elt F) f3) (arg4.view.read (Elt F) f4) (arg5.view.read (Elt F) f5)
              (arg6.view.read (Elt F) f6) (arg7.view.read (Elt F) f7) (arg8.view.read (Elt F) f8)⌝ ∗ pt c arg10 f)
        ∗ (∃ f, pt c arg11 f) ∗ (∃ f, pt c arg12 f)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12) K := by
  have e := fin3_eq i arg7 arg8 arg11 arg12 f7 f8 f11 (arg3.view.read (Elt F) f3) (arg4.view.read (Elt F) f4) (arg6.view.read (Elt F) f6)
  simp only [cc0_attention_eq_skeleton]; unfold cc0_attention_skel
  simp only [k0_part1_eq_skeleton, k0_part2_eq_skeleton, k0_part3_eq_skeleton, k0_part4_eq_skeleton, k0_part5_eq_skeleton]
  iintro ⟨H3, H4, H5, H6, H7, H8, H9, H10, H11, H12, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    rotate_left
    · iexact H9
    · ipureintro
      refine read_full arg9 _ _ (fun a => by fin_cases a <;> rfl) (fun _ => rfl) rfl _ _ fun x y hxy => ?_
      obtain rfl : x = y := funext fun a => Fin.ext (hxy a).symm
      unfold outv v151
      rw [← e.1, ← e.2]
      rfl
  isplitl [H10]
  · iexists _
    isplitr
    rotate_left
    · iexact H10
    · ipureintro
      refine read_full arg10 _ _ (fun a => by fin_cases a <;> rfl) (fun _ => rfl) rfl _ _ fun x y hxy => ?_
      obtain rfl : x = y := funext fun a => Fin.ext (hxy a).symm
      unfold oav v151 v156
      rw [← e.1, ← e.2]
      rfl
  isplitl [H11]; · iexists _; iexact H11
  iexists _; iexact H12

/-- A later query block of a group. -/
theorem run_rest (hc1 : ¬ k0_cond1 i = 1#1) (hc2 : k0_cond2 i = 1#1)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty)
    (f12 : BufTy.Contents (Elt F) arg12.view.ty) (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗
       (iprop(pt c arg3 f3 ∗ pt c arg4 f4 ∗ pt c arg5 f5 ∗ pt c arg6 f6 ∗ pt c arg7 f7 ∗ pt c arg8 f8
        ∗ (∃ f, ⌜arg9.view.read (Elt F) f = outv i (arg3.view.read (Elt F) f3) (arg4.view.read (Elt F) f4) (arg5.view.read (Elt F) f5)
              (arg6.view.read (Elt F) f6) (arg7.view.read (Elt F) f7) (arg8.view.read (Elt F) f8)⌝ ∗ pt c arg9 f)
        ∗ (∃ f, ⌜arg10.view.read (Elt F) f = oamv i (arg3.view.read (Elt F) f3) (arg4.view.read (Elt F) f4) (arg5.view.read (Elt F) f5)
              (arg6.view.read (Elt F) f6) (arg7.view.read (Elt F) f7) (arg8.view.read (Elt F) f8) (arg10.view.read (Elt F) f10)⌝ ∗ pt c arg10 f)
        ∗ (∃ f, pt c arg11 f) ∗ (∃ f, pt c arg12 f)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12) K := by
  have e := fin3_eq i arg7 arg8 arg11 arg12 f7 f8 f11 (arg3.view.read (Elt F) f3) (arg4.view.read (Elt F) f4) (arg6.view.read (Elt F) f6)
  simp only [cc0_attention_eq_skeleton]; unfold cc0_attention_skel
  simp only [k0_part1_eq_skeleton, k0_part2_eq_skeleton, k0_part3_eq_skeleton, k0_part4_eq_skeleton, k0_part5_eq_skeleton]
  iintro ⟨H3, H4, H5, H6, H7, H8, H9, H10, H11, H12, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    rotate_left
    · iexact H9
    · ipureintro
      refine read_full arg9 _ _ (fun a => by fin_cases a <;> rfl) (fun _ => rfl) rfl _ _ fun x y hxy => ?_
      obtain rfl : x = y := funext fun a => Fin.ext (hxy a).symm
      unfold outv v151
      rw [← e.1, ← e.2]
      rfl
  isplitl [H10]
  · iexists _
    isplitr
    rotate_left
    · iexact H10
    · ipureintro
      refine read_full arg10 _ _ (fun a => by fin_cases a <;> rfl) (fun _ => rfl) rfl _ _ fun x y hxy => ?_
      obtain rfl : x = y := funext fun a => Fin.ext (hxy a).symm
      unfold oamv v151 v156
      rw [← e.1, ← e.2]
      refine congrArg (fun z => k0_pay1 _ z x) (funext fun y => ?_)
      exact congrArg (arg10.view.read (Elt F) f10) (funext fun a => Fin.ext (by fin_cases a <;> simp [Rect.unit]))
  isplitl [H11]; · iexists _; iexact H11
  iexists _; iexact H12

end Cert.Proof.Kernel

end
-- ==== Proof.KFrame.lean ====
/-
  The attention kernel's launch: the proof data (what each window's buffer holds after the body at a point), the body
  obligation from the two runs, and the frame.
-/
module

public import proofs.«01_k».proof.Proof.KRun
public import proofs.«01_k».proof.Proof.Gen.Kernel.Frame
public import Idealize.ShloMosaic.Lib.Claim
public import Idealize.ShloMosaic.Lib.Pipeline.Covers

@[expose] public section

set_option maxRecDepth 16384
set_option maxHeartbeats 1000000

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first query block of a group is the points ≡ 0 (mod 64). -/
theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
theorem hcond2 : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- The head maxima are stored at every point. -/
theorem idle7 : ∀ i : grid0.Coords, cfg0.idle 7 i = false := fun i => by
  obtain ⟨t, rfl⟩ := Pipeline.Grid.coords_surjective grid0 i
  show (!(k0_cond1 (grid0.coords t) == 1#1) && !(k0_cond2 (grid0.coords t) == 1#1)) = false
  by_cases h : t.val % 64 = 0
  · rw [(hcond1 t).mpr h]; rfl
  · rw [(hcond2 t).mpr h]; simp

/-- The output block of point `t`. -/
def outAt (c : Dev nD) (t : Fin cfg0.N) : FVec F S1x128x640 .bf16 :=
  outv (grid0.coords t) (iblk m c 0 t) (iblk m c 1 t) (iblk m c 2 t) (iblk m c 3 t) (iblk m c 4 t) (iblk m c 5 t)

/-- The head maxima after point `n`: the group's query blocks so far joined. -/
def oaAt (c : Dev nD) : (n : ℕ) → n < cfg0.N → FVec F S1x1x4x128 .f32
  | 0, h => (fun t : Fin cfg0.N => oav (grid0.coords t) (iblk m c 0 t) (iblk m c 1 t) (iblk m c 2 t) (iblk m c 3 t) (iblk m c 4 t) (iblk m c 5 t)) ⟨0, h⟩
  | n + 1, h =>
    if (n + 1) % 64 = 0 then (fun t : Fin cfg0.N => oav (grid0.coords t) (iblk m c 0 t) (iblk m c 1 t) (iblk m c 2 t) (iblk m c 3 t) (iblk m c 4 t) (iblk m c 5 t)) ⟨n + 1, h⟩
    else (fun t : Fin cfg0.N => oamv (grid0.coords t) (iblk m c 0 t) (iblk m c 1 t) (iblk m c 2 t) (iblk m c 3 t) (iblk m c 4 t) (iblk m c 5 t) (oaAt c n (by omega))) ⟨n + 1, h⟩

theorem oaAt_first (c : Dev nD) (t : Fin cfg0.N) (h : t.val % 64 = 0) :
    oaAt m c t.val t.isLt = oav (grid0.coords t) (iblk m c 0 t) (iblk m c 1 t) (iblk m c 2 t) (iblk m c 3 t) (iblk m c 4 t) (iblk m c 5 t) := by
  obtain ⟨n, hn⟩ := t
  cases n with
  | zero => rfl
  | succ n => rw [oaAt, if_pos h]

theorem oaAt_rest (c : Dev nD) (t : Fin cfg0.N) (h : ¬ t.val % 64 = 0) :
    oaAt m c t.val t.isLt = oamv (grid0.coords t) (iblk m c 0 t) (iblk m c 1 t) (iblk m c 2 t) (iblk m c 3 t) (iblk m c 4 t) (iblk m c 5 t)
      (oaAt m c (t.val - 1) (Nat.lt_of_le_of_lt (Nat.sub_le _ _) t.isLt)) := by
  obtain ⟨n, hn⟩ := t
  cases n with
  | zero => exact absurd rfl h
  | succ n => rw [oaAt, if_neg h]; rfl

/-- The proof data: the inputs' blocks stay in place, the output windows hold the point's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => oaAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = oaAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later query block of a group the head maxima's buffer holds the earlier blocks'. -/
theorem before0_7_rest (c : Dev nD) (t : Fin cfg0.N) (h : ¬ t.val % 64 = 0) (d) :
    (dats m 0 c).before 7 t d = oaAt m c (t.val - 1) (Nat.lt_of_le_of_lt (Nat.sub_le _ _) t.isLt) :=
  ((dats m 0 c).before_out_kept 7 rfl t (by intro e; rw [e] at h; exact h rfl)
    (by
      rw [← Bool.not_eq_true, flush0_7]
      have e : ((⟨t.val - 1, Nat.lt_of_le_of_lt (Nat.sub_le _ _) t.isLt⟩ : Fin cfg0.N)).val = t.val - 1 := rfl
      rw [e]; omega)
    idle7 (fun _ _ => rfl) d).trans (after0_7 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A whole buffer, held. -/
theorem pt_whole (c : Dev nD) (b : Ref sig .tc) (f : BufTy.Contents (Elt F) (Memref.whole b).view.ty) :
    pt c (Memref.whole b) f = (((c : Thread nD τ).loc b) ↦{fullShare} f : sProp 𝕄) := by
  unfold pt
  rw [show (Memref.whole b).view.set = Finset.univ from View.set_whole b]
  try rfl

theorem sound_first (c : Dev nD) (t : Fin cfg0.N) (h : t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, oaAt_first m c t h]
  unfold Pipeline.ΦA
  rw [scopedRest0_eq]
  simp only [← pt_whole]
  unfold owns outAt
  iintro ⟨⟨⟨⟨%f11, H11⟩, ⟨%f12, H12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  rw [← e0, ← e1, ← e2, ← e3, ← e4, ← e5]
  iapply (run_first c Set.univ _ _ _ _ _ _ _ _ _ _ _ _ _ _ _ _ _ _ _ _ _ ((hcond1 t).mpr h) (fun hc => (hcond2 t).mp hc h) f0 f1 f2 f3 f4 f5 f6 f7 f11 f12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iintro ⟨H0, H1, H2, H3, H4, H5, ⟨%g6, %h6, H6⟩, ⟨%g7, %h7, H7⟩, ⟨%g11, H11⟩, ⟨%g12, H12⟩⟩
  isplitl [H11 H12 Hr]
  · isplitl [H11 H12]
    · isplitl [H11]
      · iexists g11; iexact H11
      · iexists g12; iexact H12
    · iexact Hr
  isplitl [Ho]; · iexact Ho
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists g6; isplitr
    · ipureintro; exact h6
    iexact H6
  iexists g7; isplitr
  · ipureintro; exact h7
  iexact H7

theorem sound_rest (c : Dev nD) (t : Fin cfg0.N) (h : ¬ t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_7_rest m c t h]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, oaAt_rest m c t h]
  unfold Pipeline.ΦA
  rw [scopedRest0_eq]
  simp only [← pt_whole]
  unfold owns outAt
  iintro ⟨⟨⟨⟨%f11, H11⟩, ⟨%f12, H12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  rw [← e0, ← e1, ← e2, ← e3, ← e4, ← e5, ← e7]
  iapply (run_rest c Set.univ _ _ _ _ _ _ _ _ _ _ _ _ _ _ _ _ _ _ _ _ _ (fun hc => h ((hcond1 t).mp hc)) ((hcond2 t).mpr h) f0 f1 f2 f3 f4 f5 f6 f7 f11 f12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iintro ⟨H0, H1, H2, H3, H4, H5, ⟨%g6, %h6, H6⟩, ⟨%g7, %h7, H7⟩, ⟨%g11, H11⟩, ⟨%g12, H12⟩⟩
  isplitl [H11 H12 Hr]
  · isplitl [H11 H12]
    · isplitl [H11]
      · iexists g11; iexact H11
      · iexists g12; iexact H12
    · iexact Hr
  isplitl [Ho]; · iexact Ho
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists g6; isplitr
    · ipureintro; exact h6
    iexact H6
  iexists g7; isplitr
  · ipureintro; exact h7
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 64 = 0
  · exact sound_first m c t h
  · exact sound_rest m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  have i7 : cfg0.idle 7 (cfg0.grid.coords t) = false := idle7 _
  rw [bigSep_W0, bigSep_W0, defs₀_row, i7]
  exact triple_restated (sound_body m c t) rfl .rfl fun _ => .rfl

set_option backward.isDefEq.respectTransparency.types false in
/-- The launch: every array at what the library computes from the proof data, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.KILoops.lean ====
/-
  The two loops of the attention kernel that run: the one that stores the scores of the earlier key chunks and keeps
  their running maximum, and the one that adds up the weights and the weighted values.  Each invariant gives the
  contents of the buffer the loop writes, and the carried value, before trip `k`, by recursion on `k`.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.LoopRemainder

@[expose] public section

set_option maxRecDepth 8192
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rectangle of key chunk `k` in the key block, for the score loop. -/
abbrev rK (i : grid0.Coords) (k : Fin (k0_t1_loop i).trips) : Rect S1x1x8192x256 :=
  Rect.unit (s := S1x1x8192x256) (k0_off3 i k) S1x1x512x160.size (k0_off3_inb i k)
/-- The rectangle of key chunk `k` in the score scratch, where the score loop stores. -/
abbrev rS (i : grid0.Coords) (k : Fin (k0_t1_loop i).trips) : Rect S8192x512 :=
  Rect.unit (s := S8192x512) (k0_off4 i k) S512x512.size (k0_off4_inb i k)
/-- The rectangle of key chunk `k` in the score scratch, where the value loop loads. -/
abbrev rS' (i : grid0.Coords) (k : Fin (k0_t3_loop i).trips) : Rect S8192x512 :=
  Rect.unit (s := S8192x512) (k0_off9 i k) S512x512.size (k0_off9_inb i k)
/-- The rectangle of key chunk `k` in the value block. -/
abbrev rV (i : grid0.Coords) (k : Fin (k0_t3_loop i).trips) : Rect S1x1x160x8192 :=
  Rect.unit (s := S1x1x160x8192) (k0_off10 i k) S1x1x160x512.size (k0_off10_inb i k)
/-- The whole of the accumulator scratch. -/
abbrev rA : Rect S160x512 := Rect.unit (s := S160x512) ![0, 0] S160x512.size inb_S160x512_S160x512_0_0

/-- The contents of the score scratch before trip `n`, and the running maximum carried into it. -/
def st1 (i : grid0.Coords) (arg7 : Memref sig .tc .vmem S1x1x8192x256 .fp8e4m3) (arg11 : Memref sig .tc .vmem S8192x512 .f32)
    (v30 : FVec F S160x512 .fp8e4m3) (X7 : BufTy.Contents (Elt F) arg7.view.ty) (G : BufTy.Contents (Elt F) arg11.view.ty)
    (init : FVec F S8x512 .f32) : ℕ → BufTy.Contents (Elt F) arg11.view.ty × FVec F S8x512 .f32
  | 0 => (G, init)
  | n + 1 =>
    let s := st1 i arg7 arg11 v30 X7 G init n
    if h : n < (k0_t1_loop i).trips then
      (arg11.view.writes (Elt F) s.1 [⟨rS i ⟨n, h⟩, k0_pay13 v30 (arg7.view.readAt (Elt F) (rK i ⟨n, h⟩).toLoadRect X7)⟩],
        k0_pay14 v30 s.2 (arg7.view.readAt (Elt F) (rK i ⟨n, h⟩).toLoadRect X7))
    else s

theorem st1_succ (i : grid0.Coords) (arg7 : Memref sig .tc .vmem S1x1x8192x256 .fp8e4m3) (arg11 : Memref sig .tc .vmem S8192x512 .f32)
    (v30 : FVec F S160x512 .fp8e4m3) (X7 : BufTy.Contents (Elt F) arg7.view.ty) (G : BufTy.Contents (Elt F) arg11.view.ty)
    (init : FVec F S8x512 .f32) (k : Fin (k0_t1_loop i).trips) :
    st1 i arg7 arg11 v30 X7 G init (k + 1) =
      (arg11.view.writes (Elt F) (st1 i arg7 arg11 v30 X7 G init k).1
          [⟨rS i k, k0_pay13 v30 (arg7.view.readAt (Elt F) (rK i k).toLoadRect X7)⟩],
        k0_pay14 v30 (st1 i arg7 arg11 v30 X7 G init k).2 (arg7.view.readAt (Elt F) (rK i k).toLoadRect X7)) := by
  rw [st1, dif_pos k.isLt]

/-- The accumulator scratch as the zero store leaves it. -/
abbrev zero12 (arg12 : Memref sig .tc .vmem S160x512 .f32) : BufTy.Contents (Elt F) arg12.view.ty :=
  arg12.view.writes (Elt F) arg12.view.junk [⟨rA, k0_pay25⟩]

/-- The contents of the accumulator scratch before trip `n`, and the weight sum carried into it. -/
def st3 (i : grid0.Coords) (arg8 : Memref sig .tc .vmem S1x1x160x8192 .fp8e4m3) (arg11 : Memref sig .tc .vmem S8192x512 .f32)
    (arg12 : Memref sig .tc .vmem S160x512 .f32)
    (v79 : FVec F S1x512 .f32) (v87 : FVec F S8x512 .f32) (v93 : FVec F S512x512 .f32) (v97 : IVec S512x512 32) (v114 : IVec S512x512 32) (v115 : IVec S512x512 32)
    (X8 : BufTy.Contents (Elt F) arg8.view.ty) (X11 : BufTy.Contents (Elt F) arg11.view.ty) (G : BufTy.Contents (Elt F) arg12.view.ty)
    (init : FVec F S8x512 .f32) : ℕ → BufTy.Contents (Elt F) arg12.view.ty × FVec F S8x512 .f32
  | 0 => (G, init)
  | n + 1 =>
    let s := st3 i arg8 arg11 arg12 v79 v87 v93 v97 v114 v115 X8 X11 G init n
    if h : n < (k0_t3_loop i).trips then
      (arg12.view.writes (Elt F) s.1 [⟨rA, k0_pay29 v79 v87 v93 v97 v114 v115 (arg11.view.readAt (Elt F) (rS' i ⟨n, h⟩).toLoadRect X11)
          (arg12.view.readAt (Elt F) rA.toLoadRect s.1) (arg8.view.readAt (Elt F) (rV i ⟨n, h⟩).toLoadRect X8)⟩],
        k0_pay28 v79 v87 v93 v97 v114 v115 s.2 (arg11.view.readAt (Elt F) (rS' i ⟨n, h⟩).toLoadRect X11))
    else s

theorem st3_succ (i : grid0.Coords) (arg8 : Memref sig .tc .vmem S1x1x160x8192 .fp8e4m3) (arg11 : Memref sig .tc .vmem S8192x512 .f32)
    (arg12 : Memref sig .tc .vmem S160x512 .f32)
    (v79 : FVec F S1x512 .f32) (v87 : FVec F S8x512 .f32) (v93 : FVec F S512x512 .f32) (v97 : IVec S512x512 32) (v114 : IVec S512x512 32) (v115 : IVec S512x512 32)
    (X8 : BufTy.Contents (Elt F) arg8.view.ty) (X11 : BufTy.Contents (Elt F) arg11.view.ty) (G : BufTy.Contents (Elt F) arg12.view.ty)
    (init : FVec F S8x512 .f32) (k : Fin (k0_t3_loop i).trips) :
    st3 i arg8 arg11 arg12 v79 v87 v93 v97 v114 v115 X8 X11 G init (k + 1) =
      (arg12.view.writes (Elt F) (st3 i arg8 arg11 arg12 v79 v87 v93 v97 v114 v115 X8 X11 G init k).1
          [⟨rA, k0_pay29 v79 v87 v93 v97 v114 v115 (arg11.view.readAt (Elt F) (rS' i k).toLoadRect X11)
            (arg12.view.readAt (Elt F) rA.toLoadRect (st3 i arg8 arg11 arg12 v79 v87 v93 v97 v114 v115 X8 X11 G init k).1)
            (arg8.view.readAt (Elt F) (rV i k).toLoadRect X8)⟩],
        k0_pay28 v79 v87 v93 v97 v114 v115 (st3 i arg8 arg11 arg12 v79 v87 v93 v97 v114 v115 X8 X11 G init k).2
          (arg11.view.readAt (Elt F) (rS' i k).toLoadRect X11)) := by
  rw [st3, dif_pos k.isLt]

variable (𝒱 : Variants) (c : Dev nD) (bd : Option 𝒱.V) (E : Set ℕ) (i : grid0.Coords) (arg3 : Memref sig .tc .smem S2x32 .f32) (harg3 : arg3.IsWhole) (arg4 : Memref sig .tc .smem S2x8 .f32) (harg4 : arg4.IsWhole) (arg5 : Memref sig .tc .smem S2x8 .f32) (harg5 : arg5.IsWhole) (arg6 : Memref sig .tc .vmem S1x4x160x128 .fp8e4m3) (harg6 : arg6.IsWhole) (arg7 : Memref sig .tc .vmem S1x1x8192x256 .fp8e4m3) (harg7 : arg7.IsWhole) (arg8 : Memref sig .tc .vmem S1x1x160x8192 .fp8e4m3) (harg8 : arg8.IsWhole) (arg9 : Memref sig .tc .vmem S1x128x640 .bf16) (harg9 : arg9.IsWhole) (arg10 : Memref sig .tc .vmem S1x1x4x128 .f32) (harg10 : arg10.IsWhole) (arg11 : Memref sig .tc .vmem S8192x512 .f32) (harg11 : arg11.IsWhole) (arg12 : Memref sig .tc .vmem S160x512 .f32) (harg12 : arg12.IsWhole)

set_option warn.classDefReducibility false in
/-- The score loop: the keys stay, the score scratch is at `st1`, the carried maximum too. -/
@[sl_loop] def inv1 (v0 : BitVec 32) (v21 : BitVec 32) (v30 : FVec F S160x512 .fp8e4m3) (v41 : F .f32) (v52 : F .f32) (v63 : F .f32) (v73 : F .f32)
    (X7 : BufTy.Contents (Elt F) arg7.view.ty) (G : BufTy.Contents (Elt F) arg11.view.ty) (init : FVec F S8x512 .f32) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) init (k0_t1_body (F := F) i arg3 harg3 arg4 harg4 arg5 harg5 arg6 harg6 arg7 harg7 arg8 harg8 arg9 harg9 arg10 harg10 arg11 harg11 arg12 harg12 v0 v21 v30 v41 v52 v63 v73) where
  inv k acc := iprop((arg7.view.loc (c : Thread nD τ) ↦[arg7.view.set]{fullShare} X7)
    ∗ (∃ f, (arg11.view.loc (c : Thread nD τ) ↦[arg11.view.set]{fullShare} f) ∗ ⌜f = (st1 i arg7 arg11 v30 X7 G init k).1⌝)
    ∗ ⌜acc = (st1 i arg7 arg11 v30 X7 G init k).2⌝)
  step k acc := by
    iintro ⟨H7, ⟨%f, H11, %hf⟩, %hacc⟩
    subst hf hacc
    rw [st1_succ]
    unfold k0_t1_body
    sl_exec
    sl_step
    isplitl [H7]; · iexact H7
    isplitl [H11]
    · iexists _; isplitl [H11]; · iexact H11
      ipureintro; rfl
    ipureintro; rfl

set_option warn.classDefReducibility false in
/-- The value loop: the values and the scores stay, the accumulator scratch is at `st3`, the carried weight sum too. -/
@[sl_loop] def inv3 (arg0 : BitVec 32) (arg1 : BitVec 32) (v20 : BitVec 32) (v79 : FVec F S1x512 .f32) (v87 : FVec F S8x512 .f32) (v89 : BitVec 32) (v93 : FVec F S512x512 .f32) (v97 : IVec S512x512 32) (v114 : IVec S512x512 32) (v115 : IVec S512x512 32)
    (X8 : BufTy.Contents (Elt F) arg8.view.ty) (X11 : BufTy.Contents (Elt F) arg11.view.ty) (init : FVec F S8x512 .f32) :
    Idealize.ShloMosaic.LoopInv (M := 𝕄) Idealize.ShloMosaic.frame (wpE defs₀ 𝒱 (c : Thread nD τ) bd) E
      (k0_t3_loop i).lb (k0_t3_loop i).ub (k0_t3_loop i).st (k0_t3_ok i) init (k0_t3_body (F := F) i arg3 harg3 arg4 harg4 arg5 harg5 arg6 harg6 arg7 harg7 arg8 harg8 arg9 harg9 arg10 harg10 arg11 harg11 arg12 harg12 arg0 arg1 v20 v79 v87 v89 v93 v97 v114 v115) where
  inv k acc := iprop((arg8.view.loc (c : Thread nD τ) ↦[arg8.view.set]{fullShare} X8)
    ∗ (arg11.view.loc (c : Thread nD τ) ↦[arg11.view.set]{fullShare} X11)
    ∗ (∃ f, (arg12.view.loc (c : Thread nD τ) ↦[arg12.view.set]{fullShare} f) ∗ ⌜f = (st3 i arg8 arg11 arg12 v79 v87 v93 v97 v114 v115 X8 X11 (zero12 arg12) init k).1⌝)
    ∗ ⌜acc = (st3 i arg8 arg11 arg12 v79 v87 v93 v97 v114 v115 X8 X11 (zero12 arg12) init k).2⌝)
  step k acc := by
    iintro ⟨H8, H11, ⟨%f, H12, %hf⟩, %hacc⟩
    subst hf hacc
    rw [st3_succ]
    unfold k0_t3_body
    sl_exec
    sl_step
    isplitl [H8]; · iexact H8
    isplitl [H11]; · iexact H11
    isplitl [H12]
    · iexists _; isplitl [H12]; · iexact H12
      ipureintro; rfl
    ipureintro; rfl

end Cert.Proof.KernelIdeal

end
-- ==== Proof.KIVal.lean ====
/-
  What the attention kernel's body computes at one grid point, as functions of the blocks it reads: the scores of
  each key chunk, the running maximum, the accumulator and the weight sum, the output block and the head maxima.
  Then the loops' contents (`st1`, `st3`) read as these functions.
-/
module

public import proofs.«01_k».proof.Proof.KILoops
public import Idealize.ShloMosaic.Lib.Pipeline.FrameBody
public import Mathlib.Tactic.IntervalCases
public import Mathlib.Tactic.FinCases

@[expose] public section

set_option maxRecDepth 8192
set_option maxHeartbeats 1000000

noncomputable section

namespace Cert.Proof.KernelIdeal

open Cert.KernelIdeal Cert.KernelIdeal.Gen

open Idealize.ShloMosaic Idealize.ShloMosaic.TcCoe

variable {F : FTy → Type} [FloatOps F] [Named F]

/-! ## Trip counts -/

/-- The number of key chunks the query block of point `i` reads. -/
def nch (i : grid0.Coords) : ℕ := (128 * (i 2).val + 639) / 512

theorem trips1 (i : grid0.Coords) : (k0_t1_loop i).trips = nch i - 1 := by
  unfold nch k0_t1_loop
  have h : (i 2).val < 64 := (i 2).isLt
  generalize (i 2).val = n at h ⊢
  interval_cases n <;> decide

theorem trips3 (i : grid0.Coords) : (k0_t3_loop i).trips = nch i := by
  unfold nch k0_t3_loop
  have h : (i 2).val < 64 := (i 2).isLt
  generalize (i 2).val = n at h ⊢
  interval_cases n <;> decide

theorem nch_pos (i : grid0.Coords) : 0 < nch i := by unfold nch; omega
theorem nch_le (i : grid0.Coords) : nch i ≤ 16 := by
  have h : (i 2).val < 64 := (i 2).isLt
  unfold nch; omega

/-! ## The body's values -/

/-- The last chunk's rectangle in the key block. -/
abbrev rKl (i : grid0.Coords) : Rect S1x1x8192x256 :=
  Rect.unit (s := S1x1x8192x256) (k0_off7 i) S1x1x512x160.size (k0_off7_inb i)
/-- The last chunk's rectangle in the score scratch. -/
abbrev rSl (i : grid0.Coords) : Rect S8192x512 :=
  Rect.unit (s := S8192x512) (k0_off8 i) S512x512.size (k0_off8_inb i)

/-- The four heads' queries side by side. -/
def q30 (x6 : Vec F S1x4x160x128 .fp8e4m3) : FVec F S160x512 .fp8e4m3 :=
  k0_pay5 (k0_pay2 (View.ld x6 (Rect.unit (s := S1x4x160x128) ![0, 0, 0, 0] S1x1x160x128.size inb_S1x4x160x128_S1x1x160x128_0_0_0_0)))
    (k0_pay3 (View.ld x6 (Rect.unit (s := S1x4x160x128) ![0, 1, 0, 0] S1x1x160x128.size inb_S1x4x160x128_S1x1x160x128_0_1_0_0)))
    (k0_pay4 (View.ld x6 (Rect.unit (s := S1x4x160x128) ![0, 2, 0, 0] S1x1x160x128.size inb_S1x4x160x128_S1x1x160x128_0_2_0_0)))
    (View.ld x6 (Rect.unit (s := S1x4x160x128) ![0, 3, 0, 0] S1x1x160x128.size inb_S1x4x160x128_S1x1x160x128_0_3_0_0))

theorem one_S1x1 : 0 < S1x1.numel := by rw [numel1_S1x1]; exact Nat.one_pos

/-- The scale of query head `r` of the point's group. -/
def sq (i : grid0.Coords) (x3 : Vec F S2x32 .f32) (r : Fin 4) : F .f32 :=
  View.ld x3 (Rect.unit (s := S2x32) (k0_off1 i (BitVec.ofNat 32 r.val)) S1x1.size (k0_off1_inb i r)) (Shape.Idx.first one_S1x1)
/-- The scale of the point's group in an array of scales by group. -/
def sg (i : grid0.Coords) (x : Vec F S2x8 .f32) : F .f32 :=
  View.ld x (Rect.unit (s := S2x8) (k0_off2 i) S1x1.size (k0_off2_inb i)) (Shape.Idx.first one_S1x1)

/-- The exponents' factor by column. -/
def c79 (i : grid0.Coords) (x3 : Vec F S2x32 .f32) (x4 : Vec F S2x8 .f32) : FVec F S1x512 .f32 :=
  k0_pay10 (k0_pay6 (sq i x3 0) (sg i x4)) (k0_pay7 (sq i x3 1) (sg i x4)) (k0_pay8 (sq i x3 2) (sg i x4)) (k0_pay9 (sq i x3 3) (sg i x4))

/-- The running maximum before chunk `n`. -/
def mx (i : grid0.Coords) (x6 : Vec F S1x4x160x128 .fp8e4m3) (x7 : Vec F S1x1x8192x256 .fp8e4m3) : ℕ → FVec F S8x512 .f32
  | 0 => k0_pay11
  | n + 1 => if h : n < (k0_t1_loop i).trips then k0_pay14 (q30 x6) (mx i x6 x7 n) (View.ld x7 (rK i ⟨n, h⟩)) else mx i x6 x7 n

/-- The word of the first query of the block. -/
def w0 (i : grid0.Coords) : BitVec 32 := Scalar.muli (BitVec.ofNat 32 (i 2).val) 128#32

/-- The word of the last chunk's number. -/
def w21 (i : grid0.Coords) : BitVec 32 :=
  let v3 : BitVec 32 := Scalar.subi (Scalar.addi (Scalar.addi (w0 i) 128#32) 512#32) 1#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 512#32 0#32)) (Scalar.extui (Scalar.cmpi .slt 512#32 0#32))
  let v15 : BitVec 1 := Scalar.cmpi .ne v9 v14
  let v17 : BitVec 1 := Scalar.cmpi .ne (Scalar.remsi v3 512#32) 0#32
  let v18 : BitVec 1 := Scalar.andi v15 v17
  let v20 : BitVec 32 := Scalar.select v18 (Scalar.subi v4 1#32) v4
  Scalar.subi v20 1#32

section Point

variable (i : grid0.Coords) (x3 : Vec F S2x32 .f32) (x4 : Vec F S2x8 .f32) (x5 : Vec F S2x8 .f32) (x6 : Vec F S1x4x160x128 .fp8e4m3)
  (x7 : Vec F S1x1x8192x256 .fp8e4m3) (x8 : Vec F S1x1x160x8192 .fp8e4m3)

/-- The last chunk's scores. -/
def v93 : FVec F S512x512 .f32 := k0_pay18 (q30 x6) (View.ld x7 (rKl i))

/-- The scores of chunk `j`, the last chunk's masked. -/
def sc (j : ℕ) : FVec F S512x512 .f32 :=
  if h : j < (k0_t1_loop i).trips then k0_pay13 (q30 x6) (View.ld x7 (rK i ⟨j, h⟩))
  else k0_pay23 (v93 i x6 x7) (k0_pay19 (w21 i)) k0_pay20 (k0_pay21 (w0 i))

/-- The accumulator and the weight sum before chunk `n`. -/
def acc : ℕ → Vec F S160x512 .f32 × FVec F S8x512 .f32
  | 0 => (k0_pay25, k0_pay26)
  | n + 1 => if h : n < (k0_t3_loop i).trips then
      (k0_pay29 (c79 i x3 x4) (mx i x6 x7 (k0_t1_loop i).trips) (v93 i x6 x7) (k0_pay19 (w21 i)) k0_pay20 (k0_pay21 (w0 i)) (sc i x6 x7 n)
          (acc n).1 (View.ld x8 (rV i ⟨n, h⟩)),
        k0_pay28 (c79 i x3 x4) (mx i x6 x7 (k0_t1_loop i).trips) (v93 i x6 x7) (k0_pay19 (w21 i)) k0_pay20 (k0_pay21 (w0 i)) (acc n).2 (sc i x6 x7 n))
    else acc n

/-- The normalised output, columns by head and query. -/
def v151 : FVec F S160x512 .f32 :=
  k0_pay33 (acc i x3 x4 x6 x7 x8 (k0_t3_loop i).trips).2 (acc i x3 x4 x6 x7 x8 (k0_t3_loop i).trips).1 (sg i x5)

/-- The output block. -/
def outv : FVec F S1x128x640 .bf16 :=
  k0_pay39 (v151 i x3 x4 x5 x6 x7 x8)
    (k0_pay34 (acc i x3 x4 x6 x7 x8 (k0_t3_loop i).trips).2 (acc i x3 x4 x6 x7 x8 (k0_t3_loop i).trips).1 (sg i x5))

/-- The first head's maximum. -/
def v156 : FVec F S1 .f32 :=
  k0_pay35 (acc i x3 x4 x6 x7 x8 (k0_t3_loop i).trips).2 (acc i x3 x4 x6 x7 x8 (k0_t3_loop i).trips).1 (sg i x5)

/-- The heads' maxima as the first query block stores them. -/
def oav : FVec F S1x1x4x128 .f32 := k0_pay41 (v151 i x3 x4 x5 x6 x7 x8) (v156 i x3 x4 x5 x6 x7 x8)

/-- The heads' maxima joined to the earlier blocks' `y`. -/
def oamv (y : Vec F S1x1x4x128 .f32) : FVec F S1x1x4x128 .f32 :=
  k0_pay1 (k0_pay40 (v151 i x3 x4 x5 x6 x7 x8) (v156 i x3 x4 x5 x6 x7 x8)) y

end Point

/-! ## The loops' contents are these values -/

section Loops

variable (i : grid0.Coords) (arg7 : Memref sig .tc .vmem S1x1x8192x256 .fp8e4m3) (arg8 : Memref sig .tc .vmem S1x1x160x8192 .fp8e4m3)
  (arg11 : Memref sig .tc .vmem S8192x512 .f32) (arg12 : Memref sig .tc .vmem S160x512 .f32)
  (f7 : BufTy.Contents (Elt F) arg7.view.ty) (f8 : BufTy.Contents (Elt F) arg8.view.ty) (f11 : BufTy.Contents (Elt F) arg11.view.ty)
  (x3 : Vec F S2x32 .f32) (x4 : Vec F S2x8 .f32) (x6 : Vec F S1x4x160x128 .fp8e4m3)

theorem st1_snd (n : ℕ) :
    (st1 i arg7 arg11 (q30 x6) f7 f11 k0_pay11 n).2 = mx i x6 (arg7.view.read (Elt F) f7) n := by
  induction n with
  | zero => rfl
  | succ n ih =>
    rw [st1, mx]
    by_cases h : n < (k0_t1_loop i).trips
    · rw [dif_pos h, dif_pos h, ← ih]; rfl
    · rw [dif_neg h, dif_neg h]; exact ih

/-- Before trip `n`, every earlier chunk of the score scratch is read as it was stored. -/
theorem st1_fst (n j : ℕ) (hj : j < n) (h : j < (k0_t1_loop i).trips) (h3 : j < (k0_t3_loop i).trips) :
    arg11.view.readAt (Elt F) (rS' i ⟨j, h3⟩).toLoadRect (st1 i arg7 arg11 (q30 x6) f7 f11 k0_pay11 n).1
      = k0_pay13 (q30 x6) (View.ld (arg7.view.read (Elt F) f7) (rK i ⟨j, h⟩)) := by
  induction n with
  | zero => omega
  | succ n ih =>
    rw [st1]
    by_cases hn : n < (k0_t1_loop i).trips
    · rw [dif_pos hn]
      funext x
      show arg11.view.read (Elt F) _ ((rS' i ⟨j, h3⟩).emb x) = _
      by_cases hjn : j = n
      · subst hjn
        dsimp only
        rw [View.read_writes_cons_hit_of_coords arg11.view _ (rS i ⟨j, hn⟩) _ _ x]
        · rfl
        · intro a
          show (k0_off9 i ⟨j, h3⟩) a + 1 * (x a).val = (k0_off4 i ⟨j, hn⟩) a + 1 * (x a).val
          rw [k0_off9_eq, k0_off4_eq]
      · rw [View.read_writes_cons_miss_of_axis _ _ _ _ _ (0 : Fin 2) (512 * n) 512]
        · exact congrFun (ih (by omega)) x
        · show (k0_off4 i ⟨n, hn⟩) 0 = _
          rw [k0_off4_eq]; rfl
        · rfl
        · rfl
        · left
          show (k0_off9 i ⟨j, h3⟩) 0 + 1 * (x 0).val < _
          rw [k0_off9_eq]
          have : (x (0 : Fin 2)).val < 512 := (x (0 : Fin 2)).isLt
          show 512 * j + 1 * (x (0 : Fin 2)).val < _
          omega
    · rw [dif_neg hn]; exact ih (by omega)

/-- The score scratch when the value loop starts: every chunk holds its scores. -/
theorem x11_read (j : ℕ) (h3 : j < (k0_t3_loop i).trips) :
    arg11.view.readAt (Elt F) (rS' i ⟨j, h3⟩).toLoadRect
        (arg11.view.writes (Elt F) (st1 i arg7 arg11 (q30 x6) f7 f11 k0_pay11 (k0_t1_loop i).trips).1
          [⟨rSl i, k0_pay23 (v93 i x6 (arg7.view.read (Elt F) f7)) (k0_pay19 (w21 i)) k0_pay20 (k0_pay21 (w0 i))⟩])
      = sc i x6 (arg7.view.read (Elt F) f7) j := by
  have h3' := h3
  rw [trips3] at h3'
  have hp := nch_pos i
  unfold sc
  funext x
  show arg11.view.read (Elt F) _ ((rS' i ⟨j, h3⟩).emb x) = _
  by_cases h : j < (k0_t1_loop i).trips
  · rw [dif_pos h, View.read_writes_cons_miss_of_axis _ _ _ _ _ (0 : Fin 2) (512 * ((128 * (i 2).val + 639) / 512) - 512) 512]
    · exact congrFun (st1_fst i arg7 arg11 f7 f11 x6 _ j h h h3) x
    · show (k0_off8 i) 0 = _
      rw [k0_off8_eq]; rfl
    · rfl
    · rfl
    · left
      show (k0_off9 i ⟨j, h3⟩) 0 + 1 * (x 0).val < _
      rw [k0_off9_eq]
      have : (x (0 : Fin 2)).val < 512 := (x (0 : Fin 2)).isLt
      rw [trips1] at h; unfold nch at h
      show 512 * j + 1 * (x (0 : Fin 2)).val < _
      omega
  · rw [dif_neg h, View.read_writes_cons_hit_of_coords arg11.view _ (rSl i) _ _ x]
    intro a
    show (k0_off9 i ⟨j, h3⟩) a + 1 * (x a).val = (k0_off8 i) a + 1 * (x a).val
    rw [k0_off9_eq, k0_off8_eq]
    rw [trips1] at h; unfold nch at h h3' hp
    have e : 512 * j = 512 * ((128 * (i 2).val + 639) / 512) - 512 := by omega
    show (![512 * j, 0] : Fin 2 → ℕ) a + _ = _
    rw [e]

/-- The accumulator scratch and the weight sum before trip `n` of the value loop. -/
theorem st3_eq (X11 : BufTy.Contents (Elt F) arg11.view.ty)
    (hX : ∀ (j : ℕ) (h3 : j < (k0_t3_loop i).trips),
      arg11.view.readAt (Elt F) (rS' i ⟨j, h3⟩).toLoadRect X11 = sc i x6 (arg7.view.read (Elt F) f7) j) (n : ℕ) :
    let s := st3 i arg8 arg11 arg12 (c79 i x3 x4) (mx i x6 (arg7.view.read (Elt F) f7) (k0_t1_loop i).trips) (v93 i x6 (arg7.view.read (Elt F) f7))
      (k0_pay19 (w21 i)) k0_pay20 (k0_pay21 (w0 i)) f8 X11 (zero12 arg12) k0_pay26 n
    arg12.view.readAt (Elt F) rA.toLoadRect s.1 = (acc i x3 x4 x6 (arg7.view.read (Elt F) f7) (arg8.view.read (Elt F) f8) n).1
      ∧ s.2 = (acc i x3 x4 x6 (arg7.view.read (Elt F) f7) (arg8.view.read (Elt F) f8) n).2 := by
  have hit : ∀ (g : BufTy.Contents (Elt F) arg12.view.ty) (w : Vec F S160x512 .f32),
      arg12.view.readAt (Elt F) rA.toLoadRect (arg12.view.writes (Elt F) g [⟨rA, w⟩]) = w := fun g w => by
    funext x
    exact View.read_writes_cons_emb arg12.view g rA w [] x
  induction n with
  | zero => exact ⟨hit _ _, rfl⟩
  | succ n ih =>
    intro s
    simp only [s]
    rw [st3, acc]
    by_cases hn : n < (k0_t3_loop i).trips
    · rw [dif_pos hn, dif_pos hn]
      obtain ⟨h1, h2⟩ := ih
      refine ⟨?_, ?_⟩
      · rw [hit, hX n hn, h1]; rfl
      · dsimp only; rw [hX n hn, h2]
    · rw [dif_neg hn, dif_neg hn]; exact ih

end Loops

end Cert.Proof.KernelIdeal

end
-- ==== Proof.KIRun.lean ====
/-
  The attention kernel's body run at symbolic operands and a symbolic grid point: once for the first query block of a
  group (the head maxima are stored) and once for a later one (they are joined to the earlier blocks').
-/
module

public import proofs.«01_k».proof.Proof.KIVal

@[expose] public section

set_option maxRecDepth 8192
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (E : Set ℕ) (i : grid0.Coords) (arg3 : Memref sig .tc .smem S2x32 .f32) (harg3 : arg3.IsWhole) (arg4 : Memref sig .tc .smem S2x8 .f32) (harg4 : arg4.IsWhole) (arg5 : Memref sig .tc .smem S2x8 .f32) (harg5 : arg5.IsWhole) (arg6 : Memref sig .tc .vmem S1x4x160x128 .fp8e4m3) (harg6 : arg6.IsWhole) (arg7 : Memref sig .tc .vmem S1x1x8192x256 .fp8e4m3) (harg7 : arg7.IsWhole) (arg8 : Memref sig .tc .vmem S1x1x160x8192 .fp8e4m3) (harg8 : arg8.IsWhole) (arg9 : Memref sig .tc .vmem S1x128x640 .bf16) (harg9 : arg9.IsWhole) (arg10 : Memref sig .tc .vmem S1x1x4x128 .f32) (harg10 : arg10.IsWhole) (arg11 : Memref sig .tc .vmem S8192x512 .f32) (harg11 : arg11.IsWhole) (arg12 : Memref sig .tc .vmem S160x512 .f32) (harg12 : arg12.IsWhole)

/-- Memref `M`'s buffer on core `c` held whole at `f`. -/
abbrev pt {sp : Space} {S : Shape} {e : EltTy} (M : Memref sig .tc sp S e) (f : BufTy.Contents (Elt F) M.view.ty) : sProp 𝕄 :=
  (M.view.loc (c : Thread nD τ) ↦[M.view.set]{fullShare} f)

section Readouts

variable (arg3 : Memref sig .tc .smem S2x32 .f32) (arg4 : Memref sig .tc .smem S2x8 .f32) (arg5 : Memref sig .tc .smem S2x8 .f32)
  (arg7 : Memref sig .tc .vmem S1x1x8192x256 .fp8e4m3) (arg8 : Memref sig .tc .vmem S1x1x160x8192 .fp8e4m3)
  (arg11 : Memref sig .tc .vmem S8192x512 .f32) (arg12 : Memref sig .tc .vmem S160x512 .f32)
  (f7 : BufTy.Contents (Elt F) arg7.view.ty) (f8 : BufTy.Contents (Elt F) arg8.view.ty) (f11 : BufTy.Contents (Elt F) arg11.view.ty)
  (x3 : Vec F S2x32 .f32) (x4 : Vec F S2x8 .f32) (x6 : Vec F S1x4x160x128 .fp8e4m3)

/-- What the value loop leaves, from the score scratch as the maximum loop left it. -/
abbrev fin3 :=
  st3 i arg8 arg11 arg12 (c79 i x3 x4) (st1 i arg7 arg11 (q30 x6) f7 f11 k0_pay11 (k0_t1_loop i).trips).2 (v93 i x6 (arg7.view.read (Elt F) f7))
    (k0_pay19 (w21 i)) k0_pay20 (k0_pay21 (w0 i)) f8
    (arg11.view.writes (Elt F) (st1 i arg7 arg11 (q30 x6) f7 f11 k0_pay11 (k0_t1_loop i).trips).1
      [⟨rSl i, k0_pay23 (v93 i x6 (arg7.view.read (Elt F) f7)) (k0_pay19 (w21 i)) k0_pay20 (k0_pay21 (w0 i))⟩])
    (zero12 arg12) k0_pay26 (k0_t3_loop i).trips

theorem fin3_eq :
    arg12.view.readAt (Elt F) rA.toLoadRect (fin3 i arg7 arg8 arg11 arg12 f7 f8 f11 x3 x4 x6).1
        = (acc i x3 x4 x6 (arg7.view.read (Elt F) f7) (arg8.view.read (Elt F) f8) (k0_t3_loop i).trips).1
      ∧ (fin3 i arg7 arg8 arg11 arg12 f7 f8 f11 x3 x4 x6).2
        = (acc i x3 x4 x6 (arg7.view.read (Elt F) f7) (arg8.view.read (Elt F) f8) (k0_t3_loop i).trips).2 := by
  unfold fin3
  rw [st1_snd]
  exact st3_eq i arg7 arg8 arg11 arg12 f7 f8 x3 x4 x6 _ (fun j h => x11_read i arg7 arg11 f7 f11 x6 j h) _

/-- A write of a whole memref, read back. -/
theorem read_full {sp : Space} {S : Shape} {e : EltTy} (M : Memref sig .tc sp S e) (f : BufTy.Contents (Elt F) M.view.ty) (r : Rect S)
    (h0 : ∀ a, r.off a = 0) (h1 : ∀ a, r.stride a = 1) (hs : r.size = S.size) (w : Vec F S e) (w' : r.shape.Idx → Elt F e)
    (hw : ∀ (x : r.shape.Idx) (y : S.Idx), (∀ a, (y a).val = (x a).val) → w' x = w y) :
    M.view.read (Elt F) (M.view.writes (Elt F) f [⟨r, w'⟩]) = w := by
  funext y
  rw [View.read_writes_cons_hit_of_coords M.view f r w' [] (fun a => ⟨(y a).val, by
    show (y a).val < r.size a
    rw [hs]; exact (y a).isLt⟩) y (fun a => by rw [h0, h1]; simp)]
  exact hw _ _ fun _ => rfl

end Readouts

/-- The first query block of a group. -/
theorem run_first (hc1 : k0_cond1 i = 1#1) (hc2 : ¬ k0_cond2 i = 1#1)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty)
    (f12 : BufTy.Contents (Elt F) arg12.view.ty) (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗
       (iprop(pt c arg3 f3 ∗ pt c arg4 f4 ∗ pt c arg5 f5 ∗ pt c arg6 f6 ∗ pt c arg7 f7 ∗ pt c arg8 f8
        ∗ (∃ f, ⌜arg9.view.read (Elt F) f = outv i (arg3.view.read (Elt F) f3) (arg4.view.read (Elt F) f4) (arg5.view.read (Elt F) f5)
              (arg6.view.read (Elt F) f6) (arg7.view.read (Elt F) f7) (arg8.view.read (Elt F) f8)⌝ ∗ pt c arg9 f)
        ∗ (∃ f, ⌜arg10.view.read (Elt F) f = oav i (arg3.view.read (Elt F) f3) (arg4.view.read (Elt F) f4) (arg5.view.read (Elt F) f5)
              (arg6.view.read (Elt F) f6) (arg7.view.read (Elt F) f7) (arg8.view.read (Elt F) f8)⌝ ∗ pt c arg10 f)
        ∗ (∃ f, pt c arg11 f) ∗ (∃ f, pt c arg12 f)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12) K := by
  have e := fin3_eq i arg7 arg8 arg11 arg12 f7 f8 f11 (arg3.view.read (Elt F) f3) (arg4.view.read (Elt F) f4) (arg6.view.read (Elt F) f6)
  simp only [cc0_attention_eq_skeleton]; unfold cc0_attention_skel
  simp only [k0_part1_eq_skeleton, k0_part2_eq_skeleton, k0_part3_eq_skeleton, k0_part4_eq_skeleton, k0_part5_eq_skeleton]
  iintro ⟨H3, H4, H5, H6, H7, H8, H9, H10, H11, H12, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    rotate_left
    · iexact H9
    · ipureintro
      refine read_full arg9 _ _ (fun a => by fin_cases a <;> rfl) (fun _ => rfl) rfl _ _ fun x y hxy => ?_
      obtain rfl : x = y := funext fun a => Fin.ext (hxy a).symm
      unfold outv v151
      rw [← e.1, ← e.2]
      rfl
  isplitl [H10]
  · iexists _
    isplitr
    rotate_left
    · iexact H10
    · ipureintro
      refine read_full arg10 _ _ (fun a => by fin_cases a <;> rfl) (fun _ => rfl) rfl _ _ fun x y hxy => ?_
      obtain rfl : x = y := funext fun a => Fin.ext (hxy a).symm
      unfold oav v151 v156
      rw [← e.1, ← e.2]
      rfl
  isplitl [H11]; · iexists _; iexact H11
  iexists _; iexact H12

/-- A later query block of a group. -/
theorem run_rest (hc1 : ¬ k0_cond1 i = 1#1) (hc2 : k0_cond2 i = 1#1)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty)
    (f12 : BufTy.Contents (Elt F) arg12.view.ty) (K : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗
       (iprop(pt c arg3 f3 ∗ pt c arg4 f4 ∗ pt c arg5 f5 ∗ pt c arg6 f6 ∗ pt c arg7 f7 ∗ pt c arg8 f8
        ∗ (∃ f, ⌜arg9.view.read (Elt F) f = outv i (arg3.view.read (Elt F) f3) (arg4.view.read (Elt F) f4) (arg5.view.read (Elt F) f5)
              (arg6.view.read (Elt F) f6) (arg7.view.read (Elt F) f7) (arg8.view.read (Elt F) f8)⌝ ∗ pt c arg9 f)
        ∗ (∃ f, ⌜arg10.view.read (Elt F) f = oamv i (arg3.view.read (Elt F) f3) (arg4.view.read (Elt F) f4) (arg5.view.read (Elt F) f5)
              (arg6.view.read (Elt F) f6) (arg7.view.read (Elt F) f7) (arg8.view.read (Elt F) f8) (arg10.view.read (Elt F) f10)⌝ ∗ pt c arg10 f)
        ∗ (∃ f, pt c arg11 f) ∗ (∃ f, pt c arg12 f)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12) K := by
  have e := fin3_eq i arg7 arg8 arg11 arg12 f7 f8 f11 (arg3.view.read (Elt F) f3) (arg4.view.read (Elt F) f4) (arg6.view.read (Elt F) f6)
  simp only [cc0_attention_eq_skeleton]; unfold cc0_attention_skel
  simp only [k0_part1_eq_skeleton, k0_part2_eq_skeleton, k0_part3_eq_skeleton, k0_part4_eq_skeleton, k0_part5_eq_skeleton]
  iintro ⟨H3, H4, H5, H6, H7, H8, H9, H10, H11, H12, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    rotate_left
    · iexact H9
    · ipureintro
      refine read_full arg9 _ _ (fun a => by fin_cases a <;> rfl) (fun _ => rfl) rfl _ _ fun x y hxy => ?_
      obtain rfl : x = y := funext fun a => Fin.ext (hxy a).symm
      unfold outv v151
      rw [← e.1, ← e.2]
      rfl
  isplitl [H10]
  · iexists _
    isplitr
    rotate_left
    · iexact H10
    · ipureintro
      refine read_full arg10 _ _ (fun a => by fin_cases a <;> rfl) (fun _ => rfl) rfl _ _ fun x y hxy => ?_
      obtain rfl : x = y := funext fun a => Fin.ext (hxy a).symm
      unfold oamv v151 v156
      rw [← e.1, ← e.2]
      refine congrArg (fun z => k0_pay1 _ z x) (funext fun y => ?_)
      exact congrArg (arg10.view.read (Elt F) f10) (funext fun a => Fin.ext (by fin_cases a <;> simp [Rect.unit]))
  isplitl [H11]; · iexists _; iexact H11
  iexists _; iexact H12

end Cert.Proof.KernelIdeal

end
-- ==== Proof.KIFrame.lean ====
/-
  The attention kernel's launch: the proof data (what each window's buffer holds after the body at a point), the body
  obligation from the two runs, and the frame.
-/
module

public import proofs.«01_k».proof.Proof.KIRun
public import proofs.«01_k».proof.Proof.Gen.KernelIdeal.Frame
public import Idealize.ShloMosaic.Lib.Claim
public import Idealize.ShloMosaic.Lib.Pipeline.Covers

@[expose] public section

set_option maxRecDepth 16384
set_option maxHeartbeats 1000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first query block of a group is the points ≡ 0 (mod 64). -/
theorem hcond1 : ∀ t : Fin cfg0.N, k0_cond1 (grid0.coords t) = 1#1 ↔ t.val % 64 = 0 :=
  (by decide +kernel : ∀ t : Fin grid0.N, k0_cond1 (grid0.coords t) = 1#1 ↔ t.val % 64 = 0)
theorem hcond2 : ∀ t : Fin cfg0.N, k0_cond2 (grid0.coords t) = 1#1 ↔ ¬ t.val % 64 = 0 :=
  (by decide +kernel : ∀ t : Fin grid0.N, k0_cond2 (grid0.coords t) = 1#1 ↔ ¬ t.val % 64 = 0)

/-- The head maxima are stored at every point. -/
theorem idle7 : ∀ i : grid0.Coords, cfg0.idle 7 i = false := fun i => by
  obtain ⟨t, rfl⟩ := Pipeline.Grid.coords_surjective grid0 i
  show (!(k0_cond1 (grid0.coords t) == 1#1) && !(k0_cond2 (grid0.coords t) == 1#1)) = false
  by_cases h : t.val % 64 = 0
  · rw [(hcond1 t).mpr h]; rfl
  · rw [(hcond2 t).mpr h]; simp

/-- The output block of point `t`. -/
def outAt (c : Dev nD) (t : Fin cfg0.N) : FVec F S1x128x640 .bf16 :=
  outv (grid0.coords t) (iblk m c 0 t) (iblk m c 1 t) (iblk m c 2 t) (iblk m c 3 t) (iblk m c 4 t) (iblk m c 5 t)

/-- The head maxima after point `n`: the group's query blocks so far joined. -/
def oaAt (c : Dev nD) : (n : ℕ) → n < cfg0.N → FVec F S1x1x4x128 .f32
  | 0, h => (fun t : Fin cfg0.N => oav (grid0.coords t) (iblk m c 0 t) (iblk m c 1 t) (iblk m c 2 t) (iblk m c 3 t) (iblk m c 4 t) (iblk m c 5 t)) ⟨0, h⟩
  | n + 1, h =>
    if (n + 1) % 64 = 0 then (fun t : Fin cfg0.N => oav (grid0.coords t) (iblk m c 0 t) (iblk m c 1 t) (iblk m c 2 t) (iblk m c 3 t) (iblk m c 4 t) (iblk m c 5 t)) ⟨n + 1, h⟩
    else (fun t : Fin cfg0.N => oamv (grid0.coords t) (iblk m c 0 t) (iblk m c 1 t) (iblk m c 2 t) (iblk m c 3 t) (iblk m c 4 t) (iblk m c 5 t) (oaAt c n (by omega))) ⟨n + 1, h⟩

theorem oaAt_first (c : Dev nD) (t : Fin cfg0.N) (h : t.val % 64 = 0) :
    oaAt m c t.val t.isLt = oav (grid0.coords t) (iblk m c 0 t) (iblk m c 1 t) (iblk m c 2 t) (iblk m c 3 t) (iblk m c 4 t) (iblk m c 5 t) := by
  obtain ⟨n, hn⟩ := t
  cases n with
  | zero => rfl
  | succ n => rw [oaAt, if_pos h]

theorem oaAt_rest (c : Dev nD) (t : Fin cfg0.N) (h : ¬ t.val % 64 = 0) :
    oaAt m c t.val t.isLt = oamv (grid0.coords t) (iblk m c 0 t) (iblk m c 1 t) (iblk m c 2 t) (iblk m c 3 t) (iblk m c 4 t) (iblk m c 5 t)
      (oaAt m c (t.val - 1) (Nat.lt_of_le_of_lt (Nat.sub_le _ _) t.isLt)) := by
  obtain ⟨n, hn⟩ := t
  cases n with
  | zero => exact absurd rfl h
  | succ n => rw [oaAt, if_neg h]; rfl

/-- The proof data: the inputs' blocks stay in place, the output windows hold the point's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => oaAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = oaAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later query block of a group the head maxima's buffer holds the earlier blocks'. -/
theorem before0_7_rest (c : Dev nD) (t : Fin cfg0.N) (h : ¬ t.val % 64 = 0) (d) :
    (dats m 0 c).before 7 t d = oaAt m c (t.val - 1) (Nat.lt_of_le_of_lt (Nat.sub_le _ _) t.isLt) :=
  ((dats m 0 c).before_out_kept 7 rfl t (by intro e; rw [e] at h; exact h rfl)
    (by
      rw [← Bool.not_eq_true, flush0_7]
      have e : ((⟨t.val - 1, Nat.lt_of_le_of_lt (Nat.sub_le _ _) t.isLt⟩ : Fin cfg0.N)).val = t.val - 1 := rfl
      rw [e]; omega)
    idle7 (fun _ _ => rfl) d).trans (after0_7 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A whole buffer, held. -/
theorem pt_whole (c : Dev nD) (b : Ref sig .tc) (f : BufTy.Contents (Elt F) (Memref.whole b).view.ty) :
    pt c (Memref.whole b) f = (((c : Thread nD τ).loc b) ↦{fullShare} f : sProp 𝕄) := by
  unfold pt
  rw [show (Memref.whole b).view.set = Finset.univ from View.set_whole b]
  try rfl

theorem sound_first (c : Dev nD) (t : Fin cfg0.N) (h : t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, oaAt_first m c t h]
  unfold Pipeline.ΦA
  rw [scopedRest0_eq]
  simp only [← pt_whole]
  unfold owns outAt
  iintro ⟨⟨⟨⟨%f11, H11⟩, ⟨%f12, H12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  rw [← e0, ← e1, ← e2, ← e3, ← e4, ← e5]
  iapply (run_first c Set.univ _ _ _ _ _ _ _ _ _ _ _ _ _ _ _ _ _ _ _ _ _ ((hcond1 t).mpr h) (fun hc => (hcond2 t).mp hc h) f0 f1 f2 f3 f4 f5 f6 f7 f11 f12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iintro ⟨H0, H1, H2, H3, H4, H5, ⟨%g6, %h6, H6⟩, ⟨%g7, %h7, H7⟩, ⟨%g11, H11⟩, ⟨%g12, H12⟩⟩
  isplitl [H11 H12 Hr]
  · isplitl [H11 H12]
    · isplitl [H11]
      · iexists g11; iexact H11
      · iexists g12; iexact H12
    · iexact Hr
  isplitl [Ho]; · iexact Ho
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists g6; isplitr
    · ipureintro; exact h6
    iexact H6
  iexists g7; isplitr
  · ipureintro; exact h7
  iexact H7

theorem sound_rest (c : Dev nD) (t : Fin cfg0.N) (h : ¬ t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_7_rest m c t h]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, oaAt_rest m c t h]
  unfold Pipeline.ΦA
  rw [scopedRest0_eq]
  simp only [← pt_whole]
  unfold owns outAt
  iintro ⟨⟨⟨⟨%f11, H11⟩, ⟨%f12, H12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  rw [← e0, ← e1, ← e2, ← e3, ← e4, ← e5, ← e7]
  iapply (run_rest c Set.univ _ _ _ _ _ _ _ _ _ _ _ _ _ _ _ _ _ _ _ _ _ (fun hc => h ((hcond1 t).mp hc)) ((hcond2 t).mpr h) f0 f1 f2 f3 f4 f5 f6 f7 f11 f12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iintro ⟨H0, H1, H2, H3, H4, H5, ⟨%g6, %h6, H6⟩, ⟨%g7, %h7, H7⟩, ⟨%g11, H11⟩, ⟨%g12, H12⟩⟩
  isplitl [H11 H12 Hr]
  · isplitl [H11 H12]
    · isplitl [H11]
      · iexists g11; iexact H11
      · iexists g12; iexact H12
    · iexact Hr
  isplitl [Ho]; · iexact Ho
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists g6; isplitr
    · ipureintro; exact h6
    iexact H6
  iexists g7; isplitr
  · ipureintro; exact h7
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 64 = 0
  · exact sound_first m c t h
  · exact sound_rest m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  have i7 : cfg0.idle 7 (cfg0.grid.coords t) = false := idle7 _
  rw [bigSep_W0, bigSep_W0, defs₀_row, i7]
  exact triple_restated (sound_body m c t) rfl .rfl fun _ => .rfl

set_option backward.isDefEq.respectTransparency.types false in
/-- The launch: every array at what the library computes from the proof data, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.KMath.lean ====
/-
  The mathematics of the claim, on the extended reals: causal softmax attention of one query, computed with base-2
  exponentials over the key chunks up to the query's, is softmax attention over all keys, masked.
-/
module

public import Idealize.ShloMosaic.PureOps.Ideal
public import Idealize.ShloMosaic.PureOps.IdealRules
public import Mathlib.Data.EReal.Operations
public import Mathlib.Data.EReal.Inv
public import Mathlib.Algebra.BigOperators.Group.Finset.Basic
public import Mathlib.Algebra.BigOperators.Fin

@[expose] public section

noncomputable section

namespace Cert.Proof.Attn

open Idealize.ShloMosaic Finset

/-! ## Constants -/

/-- The maxima's initial value. -/
theorem ninf : Ideal.ofBits FTy.f32 4286578688#32 = (⊥ : EReal) := by
  show Ideal.ieee 8 23 4286578688#32 = ⊥
  unfold Ideal.ieee
  simp

theorem zero_const : Ideal.ofBits FTy.f32 0#32 = (0 : EReal) := by
  show Ideal.ieee 8 23 0#32 = 0
  unfold Ideal.ieee
  simp

/-- The score scale is a positive number. -/
theorem scale_pos : (0 : EReal) < Ideal.ofBits FTy.f32 1034021019#32 := by
  show (0 : EReal) < Ideal.ieee 8 23 1034021019#32
  unfold Ideal.ieee
  simp
  try positivity

/-! ## The exponentials -/

/-- The reciprocal of the logarithm of 2. -/
def L : EReal := (((Real.log 2)⁻¹ : ℝ) : EReal)

theorem L_pos' : (0 : ℝ) < (Real.log 2)⁻¹ := inv_pos.mpr (Real.log_pos (by norm_num))
theorem L_pos : (0 : EReal) < L := by unfold L; exact_mod_cast L_pos'
theorem L_ne_top : L ≠ ⊤ := EReal.coe_ne_top _

/-- A base-2 exponential of a multiple of `L` is the exponential. -/
theorem exp2_mul_L (y : EReal) : Ideal.exp2 (y * L) = Ideal.exp y := by
  induction y using EReal.rec with
  | bot => rw [EReal.bot_mul_of_pos L_pos]; rfl
  | top => rw [EReal.top_mul_of_pos L_pos]; rfl
  | coe r =>
    unfold L
    rw [← EReal.coe_mul, Ideal.exp2_coe, Ideal.exp_coe]
    congr 1
    show (2 : ℝ) ^ (r * (Real.log 2)⁻¹) = Real.exp r
    rw [Real.rpow_def_of_pos (by norm_num)]
    congr 1
    have : Real.log 2 ≠ 0 := (Real.log_pos (by norm_num)).ne'
    field_simp

theorem sub_mul_L (x y : EReal) : x * L - y * L = (x - y) * L := by
  rw [sub_eq_add_neg, sub_eq_add_neg, ← EReal.neg_mul, mul_comm x, mul_comm (-y), mul_comm (x + -y)]
  exact (EReal.left_distrib_of_nonneg_of_ne_top L_pos.le L_ne_top x (-y)).symm

theorem exp2_scaled (x y f : EReal) : Ideal.exp2 (x * (f * L) - y * (f * L)) = Ideal.exp (x * f - y * f) := by
  rw [← mul_assoc, ← mul_assoc, sub_mul_L, exp2_mul_L]

/-! ## Masked scores -/

/-- The score of key `k`, masked off after query `q`. -/
def S (D : ℕ → EReal) (q k : ℕ) : EReal := if k ≤ q then D k else ⊥

/-- The scaled score of key `k`, masked off after query `q`. -/
def s (D : ℕ → EReal) (q : ℕ) (f : EReal) (k : ℕ) : EReal := if k ≤ q then D k * f else ⊥

/-- The kernel's weight of key `k`: the maximum is over the keys before `N`. -/
def kp (D : ℕ → EReal) (q N : ℕ) (c : EReal) (k : ℕ) : EReal := Ideal.exp2 (S D q k * c - (range N).sup (S D q) * c)

/-- The reference's weight of key `k`. -/
def rp (D : ℕ → EReal) (q : ℕ) (f : EReal) (k : ℕ) : EReal := Ideal.exp (s D q f k - (range 8192).sup (s D q f))

/-- The attention output of one query in one value column. -/
def osp (D V : ℕ → EReal) (q : ℕ) (f vs : EReal) : EReal :=
  (∑ k ∈ range 8192, rp D q f k * V k) * Ideal.div vs (∑ k ∈ range 8192, rp D q f k)

section

variable (D V : ℕ → EReal) (q N : ℕ) (f : EReal)

theorem S_mul (hf : 0 < f) (k : ℕ) : S D q k * f = s D q f k := by
  unfold S s
  split
  · rfl
  · exact EReal.bot_mul_of_pos hf

theorem sup_extend (g : ℕ → EReal) (hq : q < N) (hN : N ≤ 8192) (hg : ∀ k, q < k → g k = ⊥) : (range N).sup g = (range 8192).sup g := by
  refine le_antisymm (Finset.sup_mono (by simpa using hN)) (Finset.sup_le fun k hk => ?_)
  by_cases h : k < N
  · exact Finset.le_sup (by simpa using h)
  · rw [hg k (by omega)]; exact bot_le

theorem sup_mul (hf : 0 < f) (hq : q < N) (hN : N ≤ 8192) :
    (range N).sup (S D q) * f = (range 8192).sup (s D q f) := by
  have hm : Monotone fun x : EReal => x * f := fun a b h => mul_le_mul_of_nonneg_right h hf.le
  rw [← sup_extend q N (s D q f) hq hN fun k hk => if_neg (by omega)]
  have := Finset.comp_sup_eq_sup_comp_of_is_total (s := range N) (f := S D q) (fun x : EReal => x * f) hm (EReal.bot_mul_of_pos hf)
  rw [this]
  exact Finset.sup_congr rfl fun k _ => S_mul D q f hf k

/-- The two weights agree. -/
theorem kp_eq (hf : 0 < f) (hq : q < N) (hN : N ≤ 8192) (k : ℕ) : kp D q N (f * L) k = rp D q f k := by
  unfold kp rp
  rw [exp2_scaled, S_mul D q f hf, sup_mul D q N f hf hq hN]

/-- A masked key has no weight. -/
theorem rp_masked (k : ℕ) (hk : q < k) : rp D q f k = 0 := by
  unfold rp s
  rw [if_neg (by omega), sub_eq_add_neg, EReal.bot_add]
  rfl

theorem sum_extend (g : ℕ → EReal) (hq : q < N) (hN : N ≤ 8192) (hg : ∀ k, q < k → g k = 0) :
    ∑ k ∈ range N, g k = ∑ k ∈ range 8192, g k :=
  Finset.sum_subset (by simpa using hN) fun k _ hk => hg k (by simp at hk; omega)

/-- The kernel's output is the reference's. -/
theorem attn_eq (hf : 0 < f) (hq : q < N) (hN : N ≤ 8192) (vs : EReal) :
    (∑ k ∈ range N, V k * kp D q N (f * L) k) * Ideal.div vs (∑ k ∈ range N, kp D q N (f * L) k) = osp D V q f vs := by
  unfold osp
  simp only [kp_eq D q N f hf hq hN]
  rw [sum_extend q N (rp D q f) hq hN fun k hk => rp_masked D q f k hk,
    sum_extend q N (fun k => V k * rp D q f k) hq hN fun k hk => by rw [rp_masked D q f k hk, mul_zero]]
  simp only [mul_comm]

end

/-! ## Chunks -/

theorem fold_max {ι : Type} (t : Finset ι) (g : ι → EReal) : Finset.fold max (⊥ : EReal) g t = t.sup g := rfl

theorem sup_fin (n : ℕ) (g : ℕ → EReal) : (univ : Finset (Fin n)).sup (fun x => g x.val) = (range n).sup g := by
  refine le_antisymm (Finset.sup_le fun x _ => Finset.le_sup (f := g) (by simp)) (Finset.sup_le fun k hk => ?_)
  have hk' : k < n := by simpa using hk
  exact Finset.le_sup (f := fun x : Fin n => g x.val) (mem_univ ⟨k, hk'⟩)

theorem sup_step (a b : ℕ) (g : ℕ → EReal) :
    max ((range a).sup g) ((univ : Finset (Fin b)).sup fun x => g (a + x.val)) = (range (a + b)).sup g := by
  refine le_antisymm (max_le (Finset.sup_mono (by simp)) (Finset.sup_le fun x _ => Finset.le_sup (f := g) (by simp))) (Finset.sup_le fun k hk => ?_)
  have hk' : k < a + b := by simpa using hk
  by_cases h : k < a
  · exact le_max_of_le_left (Finset.le_sup (f := g) (by simpa using h))
  · refine le_max_of_le_right ?_
    have := Finset.le_sup (f := fun x : Fin b => g (a + x.val)) (mem_univ ⟨k - a, by omega⟩)
    simpa [show a + (k - a) = k by omega] using this

/-- The maximum over sublanes of the maxima over rows is the maximum over all rows. -/
theorem sup_rows (n : ℕ) (g : ℕ → EReal) :
    ((univ : Finset (Fin 8)).sup fun a => (range n).sup fun y => g (8 * y + a.val)) = (range (8 * n)).sup g := by
  refine le_antisymm (Finset.sup_le fun a _ => Finset.sup_le fun y hy => Finset.le_sup (f := g) ?_) (Finset.sup_le fun k hk => ?_)
  · have : y < n := by simpa using hy
    simp; omega
  · have hk' : k < 8 * n := by simpa using hk
    refine le_trans ?_ (Finset.le_sup (f := fun a : Fin 8 => (range n).sup fun y => g (8 * y + a.val)) (mem_univ ⟨k % 8, by omega⟩))
    have := Finset.le_sup (f := fun y => g (8 * y + k % 8)) (s := range n) (b := k / 8) (by simp; omega)
    simpa [show 8 * (k / 8) + k % 8 = k by omega] using this

theorem sum_step (a b : ℕ) (g : ℕ → EReal) : (∑ k ∈ range a, g k) + ∑ x : Fin b, g (a + x.val) = ∑ k ∈ range (a + b), g k := by
  rw [Finset.sum_range_add, Finset.sum_range (fun x => g (a + x))]

/-- The sum over sublanes of the sums over rows is the sum over all rows. -/
theorem sum_rows (n : ℕ) (g : ℕ → EReal) : (∑ a : Fin 8, ∑ y ∈ range n, g (8 * y + a.val)) = ∑ k ∈ range (8 * n), g k := by
  induction n with
  | zero => simp
  | succ n ih =>
    rw [show 8 * (n + 1) = 8 * n + 8 by omega, ← sum_step, ← ih, ← Finset.sum_add_distrib]
    exact Finset.sum_congr rfl fun a _ => Finset.sum_range_succ _ _

/-- A key's number as an index. -/
def fn (k : ℕ) : Fin 8192 := ⟨k % 8192, Nat.mod_lt _ (by decide)⟩

theorem fn_val (x : Fin 8192) : fn x.val = x := Fin.ext (Nat.mod_eq_of_lt x.isLt)

/-! ## Words -/

/-- A comparison of small numbers' words is the numbers'. -/
theorem select_sle {α : Type} (k q : ℕ) (hk : k < 2 ^ 31) (hq : q < 2 ^ 31) (a b : α) :
    Scalar.select (IntOp.cmpi CmpIPredicate.sle (BitVec.ofNat 32 k) (BitVec.ofNat 32 q)) a b = if k ≤ q then a else b := by
  have h1 : (BitVec.ofNat 32 k).toInt = k := by
    have e : (BitVec.ofNat 32 k).toNat = k := by rw [BitVec.toNat_ofNat]; omega
    rw [BitVec.toInt_eq_toNat_of_lt (by rw [e]; omega), e]
  have h2 : (BitVec.ofNat 32 q).toInt = q := by
    have e : (BitVec.ofNat 32 q).toNat = q := by rw [BitVec.toNat_ofNat]; omega
    rw [BitVec.toInt_eq_toNat_of_lt (by rw [e]; omega), e]
  by_cases h : k ≤ q
  · rw [if_pos h]
    simp [Scalar.select, IntOp.cmpi, BitVec.sle, h1, h2, h]
  · rw [if_neg h]
    simp [Scalar.select, IntOp.cmpi, BitVec.sle, h1, h2, h]

end Cert.Proof.Attn
end
-- ==== Proof.KIPay.lean ====
/-
  The attention kernel's payloads on the extended reals, read at an index.
-/
module

public import proofs.«01_k».proof.Proof.KIVal
public import proofs.«01_k».proof.Proof.KMath
public import Idealize.ShloMosaic.Lib.Pointwise

@[expose] public section

set_option maxRecDepth 16384

noncomputable section

namespace Cert.Proof.KernelIdeal

open Cert.KernelIdeal Cert.KernelIdeal.Gen

open Idealize.ShloMosaic Idealize.ShloMosaic.TcCoe

theorem masked_eq : (Named.named (F := Ideal) Cert.KernelIdeal.κ "masked" (φ := .f32) 0xFF61B1E6#32 : Ideal .f32) = (⊥ : EReal) :=
  IdealRules.named_const.ideal_named_scalar _ _ _ _ rfl

theorem log2e_eq : (Named.named (F := Ideal) Cert.KernelIdeal.κ "log2e" (φ := .f32) 0x3FB8AA3B#32 : Ideal .f32) = Attn.L :=
  IdealRules.named_const.ideal_named_scalar _ _ _ _ rfl

/-! ## Scores -/

/-- The queries side by side: column `128 r + c` is query `c` of head `r`. -/
theorem q30_apply (x6 : Vec Ideal S1x4x160x128 .fp8e4m3) (d : Fin 160) (j : Fin 512) :
    q30 x6 (ix2 d j) = x6 (ix4 0 ⟨j.val / 128, by omega⟩ d ⟨j.val % 128, by omega⟩) := by
  pointwise [q30, k0_pay5, k0_pay2, k0_pay3, k0_pay4]
  have := j.isLt
  split_ifs <;> congr 2 <;> apply Fin.ext <;> simp <;> omega

theorem pay13_apply (q : FVec Ideal S160x512 .fp8e4m3) (kc : Vec Ideal S1x1x512x160 .fp8e4m3) (a j : Fin 512) :
    k0_pay13 q kc (ix2 a j) = ∑ x : Fin 160, kc (ix4 0 0 a x) * q (ix2 x j) := by
  unfold_payloads
  pointwise

theorem pay18_apply (q : FVec Ideal S160x512 .fp8e4m3) (kc : Vec Ideal S1x1x512x160 .fp8e4m3) (a j : Fin 512) :
    k0_pay18 q kc (ix2 a j) = ∑ x : Fin 160, kc (ix4 0 0 a x) * q (ix2 x j) := by
  unfold_payloads
  pointwise

theorem pay14_apply (q : FVec Ideal S160x512 .fp8e4m3) (m : FVec Ideal S8x512 .f32) (kc : Vec Ideal S1x1x512x160 .fp8e4m3) (a : Fin 8) (j : Fin 512) :
    k0_pay14 q m kc (ix2 a j)
      = max (m (ix2 a j)) (Finset.univ.sup fun x : Fin 64 => k0_pay13 q kc (ix2 ⟨x.val * 8 + a.val, by omega⟩ j)) := by
  have e : ∀ x : Fin 64, k0_pay13 q kc (ix2 ⟨x.val * 8 + a.val, by omega⟩ j) = _ := fun x => pay13_apply q kc _ j
  simp only [e]
  unfold_payloads
  pointwise
  rw [Attn.ninf]; rfl

theorem pay11_apply (a : Fin 8) (j : Fin 512) : (k0_pay11 : FVec Ideal S8x512 .f32) (ix2 a j) = (⊥ : EReal) := by
  pointwise [k0_pay11]
  exact masked_eq

/-- The query of a column within its block. -/
theorem pay20_apply (a j : Fin 512) : k0_pay20 (ix2 a j) = BitVec.ofNat 32 (j.val % 128) := by
  have e : k0_pay20 (ix2 a j) = k0_pay20 (ix2 (0 : Fin 512) j) := by pointwise [k0_pay20]
  rw [e]
  pointwise [k0_pay20]
  clear e
  revert j
  decide +kernel

theorem w21_eq (i : grid0.Coords) : w21 i = BitVec.ofNat 32 (nch i - 1) := by
  unfold nch w21 w0
  have h : (i 2).val < 64 := (i 2).isLt
  generalize (i 2).val = n at h ⊢
  interval_cases n <;> decide

theorem w0_eq (i : grid0.Coords) : w0 i = BitVec.ofNat 32 (128 * (i 2).val) := by
  unfold w0
  have h : (i 2).val < 64 := (i 2).isLt
  generalize (i 2).val = n at h ⊢
  interval_cases n <;> decide

theorem pay19_apply (w : BitVec 32) (a j : Fin 512) : k0_pay19 w (ix2 a j) = w * 512#32 + BitVec.ofNat 32 a.val := by
  pointwise [k0_pay19]
  try rfl

theorem pay22_apply (v93 : FVec Ideal S512x512 .f32) (v97 v114 : IVec S512x512 32) (w : BitVec 32) (a j : Fin 512) :
    k0_pay22 v93 v97 v114 (k0_pay21 w) (ix2 a j)
      = Scalar.select (IntOp.cmpi CmpIPredicate.sle (v97 (ix2 a j)) (w + v114 (ix2 a j))) (v93 (ix2 a j)) (⊥ : EReal) := by
  rw [← masked_eq]
  pointwise [k0_pay22, k0_pay21]
  try rfl

variable (c : FVec Ideal S1x512 .f32) (m : FVec Ideal S8x512 .f32) (v93 : FVec Ideal S512x512 .f32) (v97 v114 v115 : IVec S512x512 32)

theorem pay23_apply (a : Fin 512) (j : Fin 512) :
    k0_pay23 v93 v97 v114 v115 (ix2 a j) = k0_pay22 v93 v97 v114 v115 (ix2 a j) := by
  pointwise [k0_pay23]

theorem pay10_apply (a b d e : Ideal .f32) (j : Fin 512) :
    k0_pay10 a b d e (ix2 0 j) = if j.val / 128 = 0 then a else if j.val / 128 = 1 then b else if j.val / 128 = 2 then d else e * Attn.L := by
  rw [← log2e_eq]
  unfold_payloads
  pointwise
  have := j.isLt
  split_ifs <;> first | rfl | omega

theorem pay24_apply (j : Fin 512) :
    k0_pay24 c m v93 v97 v114 v115 (ix2 0 j) =
      (Finset.univ.sup fun a : Fin 8 => max (m (ix2 a j)) (Finset.univ.sup fun x : Fin 64 => k0_pay22 v93 v97 v114 v115 (ix2 ⟨x.val * 8 + a.val, by omega⟩ j)))
        * c (ix2 0 j) := by
  pointwise [k0_pay24]
  rw [Attn.ninf]; rfl

theorem pay27_apply (s : FVec Ideal S512x512 .f32) (a j : Fin 512) :
    k0_pay27 c m v93 v97 v114 v115 s (ix2 a j) = Ideal.exp2 (s (ix2 a j) * c (ix2 0 j) - k0_pay24 c m v93 v97 v114 v115 (ix2 0 j)) := by
  pointwise [k0_pay27]
  try rfl

theorem pay28_apply (s : FVec Ideal S512x512 .f32) (l : FVec Ideal S8x512 .f32) (a : Fin 8) (j : Fin 512) :
    k0_pay28 c m v93 v97 v114 v115 l s (ix2 a j)
      = l (ix2 a j) + ∑ x : Fin 64, k0_pay27 c m v93 v97 v114 v115 s (ix2 ⟨x.val * 8 + a.val, by omega⟩ j) := by
  pointwise [k0_pay28]

theorem pay29_apply (s : FVec Ideal S512x512 .f32) (l : FVec Ideal S160x512 .f32) (v : Vec Ideal S1x1x160x512 .fp8e4m3) (a : Fin 160) (j : Fin 512) :
    k0_pay29 c m v93 v97 v114 v115 s l v (ix2 a j)
      = l (ix2 a j) + ∑ x : Fin 512, v (ix4 0 0 a x) * k0_pay27 c m v93 v97 v114 v115 s (ix2 x j) := by
  pointwise [k0_pay29]

theorem pay25_apply (a : Fin 160) (j : Fin 512) : (k0_pay25 : FVec Ideal S160x512 .f32) (ix2 a j) = (0 : EReal) := by
  pointwise [k0_pay25]
  try exact Attn.zero_const

theorem pay26_apply (a : Fin 8) (j : Fin 512) : (k0_pay26 : FVec Ideal S8x512 .f32) (ix2 a j) = (0 : EReal) := by
  pointwise [k0_pay26]
  try exact Attn.zero_const

/-! ## Outputs -/

variable (v : FVec Ideal S160x512 .f32) (l : FVec Ideal S8x512 .f32) (s : FVec Ideal S160x512 .f32) (vs : Ideal .f32)

theorem pay33_apply (a : Fin 160) (j : Fin 512) :
    k0_pay33 l s vs (ix2 a j) = s (ix2 a j) * Ideal.div vs (∑ x : Fin 8, l (ix2 x j)) := by
  pointwise [k0_pay33]

/-- The output block: head `e / 160`, value column `e % 160`. -/
theorem pay39_apply (a : Fin 128) (e : Fin 640) :
    k0_pay39 (k0_pay33 l s vs) (k0_pay34 l s vs) (ix3 0 a e)
      = k0_pay33 l s vs (ix2 ⟨e.val % 160, by omega⟩ ⟨128 * (e.val / 160) + a.val, by omega⟩) := by
  pointwise [k0_pay39, k0_pay34, k0_pay36, k0_pay37, k0_pay38]
  have := e.isLt
  split_ifs <;> congr 2 <;> apply Fin.ext <;> simp <;> omega

/-- The largest absolute value of head `h` in the block. -/
def hmax (h : Fin 4) : EReal :=
  Finset.univ.sup fun x : Fin 128 => Finset.univ.sup fun y : Fin 160 =>
    (FloatOps.absf (F := Ideal) (v (ix2 y ⟨128 * h.val + x.val, by omega⟩)) : EReal)

theorem pay35_apply : k0_pay35 l s vs (ix1 0) = hmax (k0_pay33 l s vs) 0 := by
  pointwise [k0_pay35, k0_pay34]
  rw [Attn.ninf]
  unfold hmax
  simp only [Attn.fold_max]
  refine Finset.sup_congr rfl fun x _ => Finset.sup_congr rfl fun y _ => ?_
  congr 3
  apply Fin.ext
  simp

theorem pay40_apply (w : FVec Ideal S1 .f32) (hw : w (ix1 0) = hmax v 0) (h : Fin 4) (j : Fin 128) :
    k0_pay40 v w (ix2 h j) = hmax v h := by
  pointwise [k0_pay40, k0_pay36, k0_pay37, k0_pay38]
  rw [Attn.ninf, hw]
  unfold hmax
  fin_cases h <;> rfl

theorem pay41_apply (w : FVec Ideal S1 .f32) (h : Fin 4) (j : Fin 128) :
    k0_pay41 v w (ix4 0 0 h j) = k0_pay40 v w (ix2 h j) := by
  pointwise [k0_pay41]

theorem pay1_apply (y : FVec Ideal S4x128 .f32) (w : FVec Ideal S1x1x4x128 .f32) (h : Fin 4) (j : Fin 128) :
    k0_pay1 y w (ix4 0 0 h j) = max (w (ix4 0 0 h j)) (y (ix2 h j)) := by
  pointwise [k0_pay1]

end Cert.Proof.KernelIdeal
end
-- ==== Proof.KIPoint.lean ====
/-
  The attention kernel's body at one grid point, on the extended reals: its output is the attention output `Attn.osp`
  of each of the block's queries.
-/
module

public import proofs.«01_k».proof.Proof.KIPay

@[expose] public section

set_option maxRecDepth 16384

noncomputable section

namespace Cert.Proof.KernelIdeal

open Cert.KernelIdeal Cert.KernelIdeal.Gen

open Idealize.ShloMosaic Idealize.ShloMosaic.TcCoe
open Finset (range)
open Cert.Proof.Attn (fn)

/-! ## Blocks read by chunk -/

theorem ldK (i : grid0.Coords) (x7 : Vec Ideal S1x1x8192x256 .fp8e4m3) (n : ℕ) (h : n < (k0_t1_loop i).trips) (a : Fin 512) (x : Fin 160) :
    View.ld x7 (rK i ⟨n, h⟩) (ix4 0 0 a x) = x7 (ix4 0 0 (fn (512 * n + a.val)) ⟨x.val, by omega⟩) := by
  have h' := h
  rw [trips1] at h'
  have := nch_le i
  show x7 _ = x7 _
  congr 1
  funext b
  apply Fin.ext
  have e : ((rK i ⟨n, h⟩).emb (ix4 0 0 a x) b).val = (k0_off3 i ⟨n, h⟩) b + 1 * ((ix4 0 0 a x : S1x1x512x160.Idx) b).val := rfl
  refine e.trans ?_
  rw [k0_off3_eq]
  fin_cases b
  · rfl
  · rfl
  · show 512 * n + 1 * a.val = (512 * n + a.val) % 8192
    omega
  · show 0 + 1 * x.val = x.val
    omega

theorem ldKl (i : grid0.Coords) (x7 : Vec Ideal S1x1x8192x256 .fp8e4m3) (a : Fin 512) (x : Fin 160) :
    View.ld x7 (rKl i) (ix4 0 0 a x) = x7 (ix4 0 0 (fn (512 * (nch i - 1) + a.val)) ⟨x.val, by omega⟩) := by
  have := nch_le i
  have hp := nch_pos i
  show x7 _ = x7 _
  congr 1
  funext b
  apply Fin.ext
  have e : ((rKl i).emb (ix4 0 0 a x) b).val = (k0_off7 i) b + 1 * ((ix4 0 0 a x : S1x1x512x160.Idx) b).val := rfl
  refine e.trans ?_
  rw [k0_off7_eq]
  fin_cases b
  · rfl
  · rfl
  · show 512 * nch i - 512 + 1 * a.val = (512 * (nch i - 1) + a.val) % 8192
    omega
  · show 0 + 1 * x.val = x.val
    omega

theorem ldV (i : grid0.Coords) (x8 : Vec Ideal S1x1x160x8192 .fp8e4m3) (n : ℕ) (h : n < (k0_t3_loop i).trips) (d : Fin 160) (a : Fin 512) :
    View.ld x8 (rV i ⟨n, h⟩) (ix4 0 0 d a) = x8 (ix4 0 0 d (fn (512 * n + a.val))) := by
  have h' := h
  rw [trips3] at h'
  have := nch_le i
  show x8 _ = x8 _
  congr 1
  funext b
  apply Fin.ext
  have e : ((rV i ⟨n, h⟩).emb (ix4 0 0 d a) b).val = (k0_off10 i ⟨n, h⟩) b + 1 * ((ix4 0 0 d a : S1x1x160x512.Idx) b).val := rfl
  refine e.trans ?_
  rw [k0_off10_eq]
  fin_cases b
  · rfl
  · rfl
  · show 0 + 1 * d.val = d.val
    omega
  · show 512 * n + 1 * a.val = (512 * n + a.val) % 8192
    omega

theorem sq_eq (i : grid0.Coords) (x3 : Vec Ideal S2x32 .f32) (r : Fin 4) :
    sq i x3 r = x3 (ix2 (i 0) ⟨4 * (i 1).val + r.val, by have : (i 1).val < 8 := (i 1).isLt; omega⟩) := by
  show x3 _ = x3 _
  congr 1
  funext b
  apply Fin.ext
  have e : ((Rect.unit (s := S2x32) (k0_off1 i (BitVec.ofNat 32 r.val)) S1x1.size (k0_off1_inb i r)).emb (Shape.Idx.first one_S1x1) b).val
    = (k0_off1 i (BitVec.ofNat 32 r.val)) b + 1 * ((Shape.Idx.first one_S1x1 : S1x1.Idx) b).val := rfl
  refine e.trans ?_
  rw [k0_off1_eq]
  fin_cases b <;> rfl

theorem sg_eq (i : grid0.Coords) (x : Vec Ideal S2x8 .f32) : sg i x = x (ix2 (i 0) (i 1)) := by
  show x _ = x _
  congr 1
  funext b
  apply Fin.ext
  have e : ((Rect.unit (s := S2x8) (k0_off2 i) S1x1.size (k0_off2_inb i)).emb (Shape.Idx.first one_S1x1) b).val
    = (k0_off2 i) b + 1 * ((Shape.Idx.first one_S1x1 : S1x1.Idx) b).val := rfl
  refine e.trans ?_
  rw [k0_off2_eq]
  fin_cases b <;> rfl

/-! ## The column's scores, factor and values -/

section Point

variable (i : grid0.Coords) (x3 : Vec Ideal S2x32 .f32) (x4 : Vec Ideal S2x8 .f32) (x5 : Vec Ideal S2x8 .f32) (x6 : Vec Ideal S1x4x160x128 .fp8e4m3)
  (x7 : Vec Ideal S1x1x8192x256 .fp8e4m3) (x8 : Vec Ideal S1x1x160x8192 .fp8e4m3)

/-- The scores of column `j`, by key. -/
def Dk (j : Fin 512) (k : ℕ) : EReal := ∑ x : Fin 160, x7 (ix4 0 0 (fn k) ⟨x.val, by omega⟩) * q30 x6 (ix2 x j)
/-- The values of row `d`, by key. -/
def Vk (d : Fin 160) (k : ℕ) : EReal := x8 (ix4 0 0 d (fn k))
/-- The query of column `j`. -/
def qn (j : Fin 512) : ℕ := 128 * (i 2).val + j.val % 128
/-- The scores' factor in column `j`. -/
def fk (j : Fin 512) : EReal := sq i x3 ⟨j.val / 128, by omega⟩ * sg i x4 * Ideal.ofBits FTy.f32 1034021019#32

theorem c79_apply (j : Fin 512) : c79 i x3 x4 (ix2 0 j) = fk i x3 x4 j * Attn.L := by
  unfold c79 fk
  rw [pay10_apply]
  have hj := j.isLt
  have h6 : ∀ a b : Ideal .f32, k0_pay6 a b = (a * b * Ideal.ofBits FTy.f32 1034021019#32 : EReal) * Attn.L := fun a b => by rw [← log2e_eq]; rfl
  have h7 : ∀ a b : Ideal .f32, k0_pay7 a b = (a * b * Ideal.ofBits FTy.f32 1034021019#32 : EReal) * Attn.L := fun a b => by rw [← log2e_eq]; rfl
  have h8 : ∀ a b : Ideal .f32, k0_pay8 a b = (a * b * Ideal.ofBits FTy.f32 1034021019#32 : EReal) * Attn.L := fun a b => by rw [← log2e_eq]; rfl
  have h9 : ∀ a b : Ideal .f32, k0_pay9 a b = (a * b * Ideal.ofBits FTy.f32 1034021019#32 : EReal) := fun a b => rfl
  rw [h6, h7, h8, h9]
  have hr : ∀ r : Fin 4, j.val / 128 = r.val → (⟨j.val / 128, by omega⟩ : Fin 4) = r := fun r h => Fin.ext h
  split_ifs with h0 h1 h2
  · rw [hr 0 h0]
  · rw [hr 1 h1]
  · rw [hr 2 h2]
  · rw [hr 3 (by show j.val / 128 = 3; omega)]

theorem v93_apply (a j : Fin 512) : v93 i x6 x7 (ix2 a j) = Dk x6 x7 j (512 * (nch i - 1) + a.val) := by
  unfold v93 Dk
  rw [pay18_apply]
  exact Finset.sum_congr rfl fun x _ => by rw [ldKl]

/-- The earlier chunks' scores are of keys no later than the query. -/
theorem early (n : ℕ) (h : n < nch i - 1) (a j : Fin 512) : 512 * n + a.val ≤ qn i j := by
  unfold qn
  unfold nch at h
  omega

theorem last_scores (a j : Fin 512) :
    k0_pay22 (v93 i x6 x7) (k0_pay19 (w21 i)) k0_pay20 (k0_pay21 (w0 i)) (ix2 a j)
      = Attn.S (Dk x6 x7 j) (qn i j) (512 * (nch i - 1) + a.val) := by
  have := nch_le i
  have h2 : (i 2).val < 64 := (i 2).isLt
  rw [pay22_apply, pay19_apply, pay20_apply, w21_eq, w0_eq, v93_apply]
  have e1 : BitVec.ofNat 32 (nch i - 1) * 512#32 + BitVec.ofNat 32 a.val = BitVec.ofNat 32 (512 * (nch i - 1) + a.val) := by
    rw [BitVec.ofNat_add, BitVec.ofNat_mul, mul_comm]
  have e2 : BitVec.ofNat 32 (128 * (i 2).val) + BitVec.ofNat 32 (j.val % 128) = BitVec.ofNat 32 (qn i j) := by
    unfold qn; rw [BitVec.ofNat_add (x := 128 * (i 2).val)]
  rw [e1, e2, Attn.select_sle _ _ (by omega) (by unfold qn; omega)]
  rfl

theorem chunk_scores (n : ℕ) (h : n < (k0_t1_loop i).trips) (a j : Fin 512) :
    k0_pay13 (q30 x6) (View.ld x7 (rK i ⟨n, h⟩)) (ix2 a j) = Attn.S (Dk x6 x7 j) (qn i j) (512 * n + a.val) := by
  have h' := h
  rw [trips1] at h'
  rw [pay13_apply]
  unfold Attn.S
  rw [if_pos (early i n h' a j)]
  exact Finset.sum_congr rfl fun x _ => by rw [ldK]

/-- Every chunk's scores, masked. -/
theorem sc_apply (n : ℕ) (h : n < nch i) (a j : Fin 512) :
    sc i x6 x7 n (ix2 a j) = Attn.S (Dk x6 x7 j) (qn i j) (512 * n + a.val) := by
  unfold sc
  by_cases h1 : n < (k0_t1_loop i).trips
  · rw [dif_pos h1, chunk_scores]
  · rw [dif_neg h1, pay23_apply, last_scores]
    rw [trips1] at h1
    rw [show nch i - 1 = n by omega]

/-- The running maximum of the earlier chunks' scores, by sublane. -/
theorem mx_apply (n : ℕ) (h : n ≤ nch i - 1) (a : Fin 8) (j : Fin 512) :
    mx i x6 x7 n (ix2 a j) = (range (64 * n)).sup fun y => Attn.S (Dk x6 x7 j) (qn i j) (8 * y + a.val) := by
  induction n with
  | zero => rw [mx, pay11_apply]; rfl
  | succ n ih =>
    have h1 : n < (k0_t1_loop i).trips := by rw [trips1]; omega
    rw [mx, dif_pos h1, pay14_apply, ih (by omega), show 64 * (n + 1) = 64 * n + 64 by omega, ← Attn.sup_step]
    congr 1
    refine Finset.sup_congr rfl fun x _ => ?_
    rw [chunk_scores]
    congr 1
    show 512 * n + (x.val * 8 + a.val) = 8 * (64 * n + x.val) + a.val
    omega

/-- The maximum of the scores of all keys read, scaled. -/
theorem pay24_sup (j : Fin 512) :
    k0_pay24 (c79 i x3 x4) (mx i x6 x7 (k0_t1_loop i).trips) (v93 i x6 x7) (k0_pay19 (w21 i)) k0_pay20 (k0_pay21 (w0 i)) (ix2 0 j)
      = (range (512 * nch i)).sup (Attn.S (Dk x6 x7 j) (qn i j)) * (fk i x3 x4 j * Attn.L) := by
  have hp := nch_pos i
  rw [pay24_apply, c79_apply, trips1]
  congr 1
  rw [show 512 * nch i = 8 * (64 * nch i) by omega, ← Attn.sup_rows]
  refine Finset.sup_congr rfl fun a _ => ?_
  rw [mx_apply i x6 x7 _ le_rfl, show 64 * nch i = 64 * (nch i - 1) + 64 by omega, ← Attn.sup_step]
  congr 1
  refine Finset.sup_congr rfl fun x _ => ?_
  rw [last_scores]
  congr 1
  show 512 * (nch i - 1) + (x.val * 8 + a.val) = 8 * (64 * (nch i - 1) + x.val) + a.val
  omega

/-- The weights of chunk `n`. -/
theorem pay27_weights (n : ℕ) (h : n < nch i) (a j : Fin 512) :
    k0_pay27 (c79 i x3 x4) (mx i x6 x7 (k0_t1_loop i).trips) (v93 i x6 x7) (k0_pay19 (w21 i)) k0_pay20 (k0_pay21 (w0 i)) (sc i x6 x7 n) (ix2 a j)
      = Attn.kp (Dk x6 x7 j) (qn i j) (512 * nch i) (fk i x3 x4 j * Attn.L) (512 * n + a.val) := by
  rw [pay27_apply, pay24_sup, sc_apply i x6 x7 n h, c79_apply]
  rfl

/-- The accumulator and the weight sum before chunk `n`. -/
theorem acc_apply (n : ℕ) (h : n ≤ nch i) (j : Fin 512) :
    (∀ d : Fin 160, (acc i x3 x4 x6 x7 x8 n).1 (ix2 d j)
        = ∑ k ∈ range (512 * n), Vk x8 d k * Attn.kp (Dk x6 x7 j) (qn i j) (512 * nch i) (fk i x3 x4 j * Attn.L) k)
      ∧ ∀ a : Fin 8, (acc i x3 x4 x6 x7 x8 n).2 (ix2 a j)
        = ∑ y ∈ range (64 * n), Attn.kp (Dk x6 x7 j) (qn i j) (512 * nch i) (fk i x3 x4 j * Attn.L) (8 * y + a.val) := by
  induction n with
  | zero =>
    exact ⟨fun d => by rw [acc]; exact (pay25_apply d j).trans (by simp), fun a => by rw [acc]; exact (pay26_apply a j).trans (by simp)⟩
  | succ n ih =>
    have h3 : n < (k0_t3_loop i).trips := by rw [trips3]; omega
    obtain ⟨ih1, ih2⟩ := ih (by omega)
    rw [acc, dif_pos h3]
    refine ⟨fun d => ?_, fun a => ?_⟩
    · dsimp only
      rw [pay29_apply, ih1, show 512 * (n + 1) = 512 * n + 512 by omega, ← Attn.sum_step]
      congr 1
      refine Finset.sum_congr rfl fun x _ => ?_
      rw [pay27_weights i x3 x4 x6 x7 n (by omega), ldV]
      rfl
    · dsimp only
      rw [pay28_apply, ih2, show 64 * (n + 1) = 64 * n + 64 by omega]
      refine Eq.trans ?_ (Attn.sum_step (64 * n) 64 (fun y => Attn.kp (Dk x6 x7 j) (qn i j) (512 * nch i) (fk i x3 x4 j * Attn.L) (8 * y + a.val)))
      refine congrArg (HAdd.hAdd _) ?_
      refine Finset.sum_congr rfl fun x _ => ?_
      rw [pay27_weights i x3 x4 x6 x7 n (by omega)]
      refine congrArg (Attn.kp _ _ _ _) ?_
      show 512 * n + (x.val * 8 + a.val) = 8 * (64 * n + x.val) + a.val
      omega

/-- The point's normalised output is the attention output of each query. -/
theorem v151_apply (j : Fin 512) (hf : 0 < fk i x3 x4 j) (d : Fin 160) :
    v151 i x3 x4 x5 x6 x7 x8 (ix2 d j) = Attn.osp (Dk x6 x7 j) (Vk x8 d) (qn i j) (fk i x3 x4 j) (sg i x5) := by
  have h2 : (i 2).val < 64 := (i 2).isLt
  have hle := nch_le i
  unfold v151
  rw [pay33_apply, trips3]
  obtain ⟨h1, h2'⟩ := acc_apply i x3 x4 x6 x7 x8 (nch i) le_rfl j
  simp only [h1, h2']
  rw [Attn.sum_rows, show 8 * (64 * nch i) = 512 * nch i by omega]
  exact Attn.attn_eq (Dk x6 x7 j) (Vk x8 d) (qn i j) (512 * nch i) (fk i x3 x4 j) hf (by unfold qn nch; omega) (by omega) (sg i x5)

theorem outv_apply (a : Fin 128) (e : Fin 640) :
    outv i x3 x4 x5 x6 x7 x8 (ix3 0 a e)
      = v151 i x3 x4 x5 x6 x7 x8 (ix2 ⟨e.val % 160, by omega⟩ ⟨128 * (e.val / 160) + a.val, by omega⟩) := by
  unfold outv v151
  rw [pay39_apply]

theorem oav_apply (h : Fin 4) (l : Fin 128) :
    oav i x3 x4 x5 x6 x7 x8 (ix4 0 0 h l) = hmax (v151 i x3 x4 x5 x6 x7 x8) h := by
  unfold oav
  rw [pay41_apply, pay40_apply]
  exact pay35_apply _ _ _

theorem oamv_apply (y : Vec Ideal S1x1x4x128 .f32) (h : Fin 4) (l : Fin 128) :
    oamv i x3 x4 x5 x6 x7 x8 y (ix4 0 0 h l) = max (y (ix4 0 0 h l)) (hmax (v151 i x3 x4 x5 x6 x7 x8) h) := by
  unfold oamv
  rw [pay1_apply, pay40_apply]
  exact pay35_apply _ _ _

end Point

end Cert.Proof.KernelIdeal
end
-- ==== Proof.Spec.lean ====
/-
  The claim's two results as functions of the argument arrays: softmax attention of every query over all keys, masked
  causally, and the heads' largest absolute outputs.
-/
module

public import proofs.«01_k».proof.Proof.KMath
public import Idealize.ShloMosaic.Lib.Pointwise

@[expose] public section

set_option maxRecDepth 16384

noncomputable section

namespace Cert.Proof.Attn

open Idealize.ShloMosaic Finset

variable (x0 : Vec Ideal (⟨2, ![2, 32]⟩ : Shape) .f32) (x1 x2 : Vec Ideal (⟨2, ![2, 8]⟩ : Shape) .f32)
  (x3 : Vec Ideal (⟨4, ![2, 32, 160, 8192]⟩ : Shape) .fp8e4m3) (x4 : Vec Ideal (⟨4, ![2, 8, 8192, 256]⟩ : Shape) .fp8e4m3)
  (x5 : Vec Ideal (⟨4, ![2, 8, 160, 8192]⟩ : Shape) .fp8e4m3)

/-- The head `r` of group `g`. -/
def hd (g : Fin 8) (r : Fin 4) : Fin 32 := ⟨g.val * 4 + r.val, by omega⟩

/-- The scores of query `q`, by key. -/
def DD (b : Fin 2) (g : Fin 8) (r : Fin 4) (q : Fin 8192) (k : ℕ) : EReal :=
  ∑ x : Fin 160, x4 (ix4 b g (fn k) ⟨x.val, by omega⟩) * x3 (ix4 b (hd g r) x q)

/-- The values of column `d`, by key. -/
def VV (b : Fin 2) (g : Fin 8) (d : Fin 160) (k : ℕ) : EReal := x5 (ix4 b g d (fn k))

/-- The scores' factor. -/
def ff (b : Fin 2) (g : Fin 8) (r : Fin 4) : EReal := x0 (ix2 b (hd g r)) * x1 (ix2 b g) * Ideal.ofBits FTy.f32 1034021019#32

/-- The attention output of query `q` of head `r` of group `g`, in column `d`. -/
def OO (b : Fin 2) (g : Fin 8) (r : Fin 4) (q : Fin 8192) (d : Fin 160) : EReal :=
  osp (DD x3 x4 b g r q) (VV x5 b g d) q.val (ff x0 x1 b g r) (x2 (ix2 b g))

/-- The first result. -/
def outS : Vec Ideal (⟨3, ![2, 8192, 5120]⟩ : Shape) .bf16 := fun y =>
  OO x0 x1 x2 x3 x4 x5 (show Fin 2 from y 0) ⟨(show Fin 5120 from y 2).val / 640, by omega⟩ ⟨(show Fin 5120 from y 2).val / 160 % 4, by omega⟩
    (show Fin 8192 from y 1) ⟨(show Fin 5120 from y 2).val % 160, by omega⟩

/-- The second result. -/
def oaS : Vec Ideal (⟨4, ![2, 8, 4, 128]⟩ : Shape) .f32 := fun y =>
  univ.sup fun q : Fin 8192 => univ.sup fun d : Fin 160 =>
    (FloatOps.absf (F := Ideal) (φ := .f32) (OO x0 x1 x2 x3 x4 x5 (show Fin 2 from y 0) (show Fin 8 from y 1) (show Fin 4 from y 2) q d) : EReal)

end Cert.Proof.Attn
end
-- ==== Proof.KIBlk.lean ====
/-
  The attention kernel's blocks: which part of the argument arrays a grid point reads, and the point's output in them.
-/
module

public import proofs.«01_k».proof.Proof.KIPoint
public import proofs.«01_k».proof.Proof.KIFrame
public import proofs.«01_k».proof.Proof.Spec
public import Idealize.ShloMosaic.Lib.Pipeline.ValueKit

@[expose] public section

set_option maxRecDepth 16384

noncomputable section

namespace Cert.Proof.KernelIdeal

open Cert.KernelIdeal Cert.KernelIdeal.Gen

open Idealize.ShloMosaic Idealize.ShloMosaic.TcCoe
open Cert.Proof

variable (m : (ℓ : Loc nD τ sig) → Buf (Elt Ideal) ℓ)

/-- The windows' block indices at a point. -/
theorem idx : ∀ t : Fin cfg0.N,
    win0_0.index t = ![0, 0] ∧ win0_1.index t = ![0, 0] ∧ win0_2.index t = ![0, 0]
    ∧ win0_3.index t = ![t.val / 512, t.val / 64 % 8, 0, t.val % 64] ∧ win0_4.index t = ![t.val / 512, t.val / 64 % 8, 0, 0]
    ∧ win0_5.index t = ![t.val / 512, t.val / 64 % 8, 0, 0] ∧ win0_6.index t = ![t.val / 512, t.val % 64, t.val / 64 % 8]
    ∧ win0_7.index t = ![t.val / 512, t.val / 64 % 8, 0, 0] :=
  (by decide +kernel : ∀ t : Fin grid0.N, _)

/-- A point's coordinates. -/
theorem crd : ∀ t : Fin cfg0.N, (grid0.coords t 0).val = t.val / 512 ∧ (grid0.coords t 1).val = t.val / 64 % 8 ∧ (grid0.coords t 2).val = t.val % 64 :=
  (by decide +kernel : ∀ t : Fin grid0.N, _)

theorem lt_N (t : Fin cfg0.N) : t.val < 1024 := t.isLt

/-- The batch, the group and the queries of point `t`. -/
def pb (t : Fin cfg0.N) : Fin 2 := ⟨t.val / 512, by have := lt_N t; omega⟩
def pg (t : Fin cfg0.N) : Fin 8 := ⟨t.val / 64 % 8, by omega⟩
def pq (t : Fin cfg0.N) (a : Fin 128) : Fin 8192 := ⟨128 * (t.val % 64) + a.val, by omega⟩

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]
theorem blk2 (c : Dev nD) (t : Fin cfg0.N) : iblk m c 2 t = m ((c : Thread nD τ).loc main_arg2) := by blk_ext! [iblk, V, idx t]

theorem blk3 (c : Dev nD) (t : Fin cfg0.N) (r : Fin 4) (d : Fin 160) (a : Fin 128) :
    iblk m c 3 t (ix4 0 r d a) = m ((c : Thread nD τ).loc main_arg3) (ix4 (pb t) (Attn.hd (pg t) r) d (pq t a)) := by
  blk_ext [iblk, V, idx t, pb, pg, pq, Attn.hd]

theorem blk4 (c : Dev nD) (t : Fin cfg0.N) (k : Fin 8192) (x : Fin 256) :
    iblk m c 4 t (ix4 0 0 k x) = m ((c : Thread nD τ).loc main_arg4) (ix4 (pb t) (pg t) k x) := by
  blk_ext [iblk, V, idx t, pb, pg]

theorem blk5 (c : Dev nD) (t : Fin cfg0.N) (d : Fin 160) (k : Fin 8192) :
    iblk m c 5 t (ix4 0 0 d k) = m ((c : Thread nD τ).loc main_arg5) (ix4 (pb t) (pg t) d k) := by
  blk_ext [iblk, V, idx t, pb, pg]

end Cert.Proof.KernelIdeal
end
-- ==== Proof.KIOut.lean ====
/-
  The attention kernel's results after its run are the claim's two functions of its arguments.
-/
module

public import proofs.«01_k».proof.Proof.KIBlk

@[expose] public section

set_option maxRecDepth 16384

noncomputable section

namespace Cert.Proof.KernelIdeal

open Cert.KernelIdeal Cert.KernelIdeal.Gen

open Idealize.ShloMosaic Idealize.ShloMosaic.TcCoe Idealize.SL.Sem
open Cert.Proof

variable (m : (ℓ : Loc nD τ sig) → Buf (Elt Ideal) ℓ) (ρ : Dev nD → PrngReg)

/-- The attention outputs of the argument arrays. -/
abbrev OM (c : Dev nD) (b : Fin 2) (g : Fin 8) (r : Fin 4) (q : Fin 8192) (d : Fin 160) : EReal :=
  Attn.OO (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b g r q d

theorem OM_congr (c : Dev nD) (b : Fin 2) {g g' : Fin 8} {r r' : Fin 4} {q q' : Fin 8192} {d d' : Fin 160} (hg : g = g') (hr : r = r') (hq : q = q')
    (hd : d = d') : OM m c b g r q d = OM m c b g' r' q' d' := by
  subst hg hr hq hd
  rfl

/-- The first two arguments are positive. -/
def Pos : Prop := ∀ c : Dev nD,
  (∀ (b : Fin 2) (h : Fin 32), (0 : EReal) < m ((c : Thread nD τ).loc main_arg0) (ix2 b h))
  ∧ ∀ (b : Fin 2) (g : Fin 8), (0 : EReal) < m ((c : Thread nD τ).loc main_arg1) (ix2 b g)

/-- Row `j` of a point's block is a query of one of the group's heads. -/
theorem fk_eq (c : Dev nD) (t : Fin cfg0.N) (j : Fin 512) :
    fk (grid0.coords t) (iblk m c 0 t) (iblk m c 1 t) j
      = Attn.ff (m ((c : Thread nD τ).loc main_arg0)) (m ((c : Thread nD τ).loc main_arg1)) (pb t) (pg t) ⟨j.val / 128, by omega⟩ := by
  obtain ⟨h0, h1, h2⟩ := crd t
  have e0 : grid0.coords t 0 = pb t := Fin.ext h0
  have e1 : grid0.coords t 1 = pg t := Fin.ext h1
  unfold fk Attn.ff
  rw [sq_eq, sg_eq, blk0, blk1]
  have ej : (⟨4 * (grid0.coords t 1).val + j.val / 128, by have := (grid0.coords t 1).isLt; have : (grid0.coords t 1).val < 8 := this; omega⟩ : Fin 32)
      = Attn.hd (pg t) ⟨j.val / 128, by omega⟩ := Fin.ext (by
    show 4 * (grid0.coords t 1).val + j.val / 128 = (pg t).val * 4 + j.val / 128
    rw [e1]; omega)
  refine congrArg (· * _) (congrArg₂ _ ?_ ?_)
  · exact congrArg _ (congrArg₂ ix2 e0 ej)
  · exact congrArg _ (congrArg₂ ix2 e0 e1)

theorem Dk_eq (c : Dev nD) (t : Fin cfg0.N) (j : Fin 512) :
    Dk (iblk m c 3 t) (iblk m c 4 t) j
      = Attn.DD (m ((c : Thread nD τ).loc main_arg3)) (m ((c : Thread nD τ).loc main_arg4)) (pb t) (pg t) ⟨j.val / 128, by omega⟩ (pq t ⟨j.val % 128, by omega⟩) := by
  funext k
  unfold Dk Attn.DD
  refine Finset.sum_congr rfl fun x _ => ?_
  rw [q30_apply]
  exact congrArg₂ _ (blk4 m c t _ _) (blk3 m c t _ _ _)

theorem Vk_eq (c : Dev nD) (t : Fin cfg0.N) (d : Fin 160) :
    Vk (iblk m c 5 t) d = Attn.VV (m ((c : Thread nD τ).loc main_arg5)) (pb t) (pg t) d := by
  funext k
  exact blk5 m c t _ _

theorem qn_eq (t : Fin cfg0.N) (j : Fin 512) : qn (grid0.coords t) j = (pq t ⟨j.val % 128, by omega⟩).val := by
  obtain ⟨_, _, h2⟩ := crd t
  unfold qn pq
  rw [h2]

theorem sg2_eq (c : Dev nD) (t : Fin cfg0.N) :
    sg (grid0.coords t) (iblk m c 2 t) = m ((c : Thread nD τ).loc main_arg2) (ix2 (pb t) (pg t)) := by
  obtain ⟨h0, h1, h2⟩ := crd t
  have e0 : grid0.coords t 0 = pb t := Fin.ext h0
  have e1 : grid0.coords t 1 = pg t := Fin.ext h1
  rw [sg_eq, blk2]
  exact congrArg _ (congrArg₂ ix2 e0 e1)

/-- The factor of the scores is positive. -/
theorem ff_pos (hp : Pos m) (c : Dev nD) (b : Fin 2) (g : Fin 8) (r : Fin 4) :
    0 < Attn.ff (m ((c : Thread nD τ).loc main_arg0)) (m ((c : Thread nD τ).loc main_arg1)) b g r := by
  unfold Attn.ff
  exact EReal.mul_pos (EReal.mul_pos ((hp c).1 _ _) ((hp c).2 _ _)) Attn.scale_pos

/-- The body's output at a point. -/
theorem point (hp : Pos m) (c : Dev nD) (t : Fin cfg0.N) (d : Fin 160) (j : Fin 512) :
    v151 (grid0.coords t) (iblk m c 0 t) (iblk m c 1 t) (iblk m c 2 t) (iblk m c 3 t) (iblk m c 4 t) (iblk m c 5 t) (ix2 d j)
      = OM m c (pb t) (pg t) ⟨j.val / 128, by omega⟩ (pq t ⟨j.val % 128, by omega⟩) d := by
  rw [v151_apply _ _ _ _ _ _ _ _ (by rw [fk_eq]; exact ff_pos m hp c _ _ _), fk_eq, Dk_eq, Vk_eq, qn_eq, sg2_eq]
  rfl

/-- The largest absolute output of a head's block of queries. -/
theorem hmax_point (hp : Pos m) (c : Dev nD) (t : Fin cfg0.N) (h : Fin 4) :
    hmax (v151 (grid0.coords t) (iblk m c 0 t) (iblk m c 1 t) (iblk m c 2 t) (iblk m c 3 t) (iblk m c 4 t) (iblk m c 5 t)) h
      = Finset.univ.sup fun x : Fin 128 => Finset.univ.sup fun y : Fin 160 =>
          (FloatOps.absf (F := Ideal) (φ := .f32) (OM m c (pb t) (pg t) h (pq t x) y) : EReal) := by
  unfold hmax
  refine Finset.sup_congr rfl fun x _ => Finset.sup_congr rfl fun y _ => ?_
  rw [point m hp]
  congr 2
  · apply Fin.ext; show (128 * h.val + x.val) / 128 = h.val; omega
  · congr 1; apply Fin.ext; show (128 * h.val + x.val) % 128 = x.val; omega

/-- A block's queries joined to the earlier ones. -/
theorem sup_block (c : Dev nD) (b : Fin 2) (g : Fin 8) (h : Fin 4) (q : Fin 128 → Fin 8192) (n : ℕ) (hq : ∀ x, (q x).val = 128 * n + x.val) (hn : n < 64) :
    max ((Finset.range (128 * n)).sup fun q => Finset.univ.sup fun y : Fin 160 =>
          (FloatOps.absf (F := Ideal) (φ := .f32) (OM m c b g h (Attn.fn q) y) : EReal))
        (Finset.univ.sup fun x : Fin 128 => Finset.univ.sup fun y : Fin 160 =>
          (FloatOps.absf (F := Ideal) (φ := .f32) (OM m c b g h (q x) y) : EReal))
      = (Finset.range (128 * (n + 1))).sup fun q => Finset.univ.sup fun y : Fin 160 =>
          (FloatOps.absf (F := Ideal) (φ := .f32) (OM m c b g h (Attn.fn q) y) : EReal) := by
  have e : ∀ x : Fin 128, q x = Attn.fn (128 * n + x.val) := fun x => Fin.ext (by
    rw [hq]; exact (Nat.mod_eq_of_lt (by omega)).symm)
  simp only [e]
  exact Attn.sup_step (128 * n) 128 fun q => Finset.univ.sup fun y : Fin 160 => (FloatOps.absf (F := Ideal) (φ := .f32) (OM m c b g h (Attn.fn q) y) : EReal)

/-- The head maxima after point `n` of a group: over the queries of its blocks so far. -/
theorem oaAt_eq (hp : Pos m) (c : Dev nD) (n : ℕ) (hn : n < cfg0.N) (h : Fin 4) (l : Fin 128) :
    oaAt m c n hn (ix4 0 0 h l)
      = (Finset.range (128 * (n % 64 + 1))).sup fun q => Finset.univ.sup fun y : Fin 160 =>
          (FloatOps.absf (F := Ideal) (φ := .f32) (OM m c (pb ⟨n, hn⟩) (pg ⟨n, hn⟩) h (Attn.fn q) y) : EReal) := by
  induction n with
  | zero =>
    rw [show oaAt m c 0 hn = _ from oaAt_first m c ⟨0, hn⟩ rfl, oav_apply, hmax_point m hp, ← sup_block m c _ _ _ (pq ⟨0, hn⟩) 0 (fun x => rfl) (by decide)]
    exact (bot_sup_eq _).symm
  | succ n ih =>
    by_cases h0 : (n + 1) % 64 = 0
    · rw [show oaAt m c (n + 1) hn = _ from oaAt_first m c ⟨n + 1, hn⟩ h0, oav_apply, hmax_point m hp,
        h0, ← sup_block m c _ _ _ (pq ⟨n + 1, hn⟩) 0 (fun x => by show 128 * ((n + 1) % 64) + x.val = _; rw [h0]) (by decide)]
      exact (bot_sup_eq _).symm
    · have hn' : n < cfg0.N := Nat.lt_of_succ_lt hn
      have hN : n + 1 < 1024 := hn
      rw [show oaAt m c (n + 1) hn = _ from oaAt_rest m c ⟨n + 1, hn⟩ h0, oamv_apply, hmax_point m hp,
        show oaAt m c ((⟨n + 1, hn⟩ : Fin cfg0.N).val - 1) _ (ix4 0 0 h l) = _ from ih hn']
      have eb : pb ⟨n, hn'⟩ = pb ⟨n + 1, hn⟩ := Fin.ext (by show n / 512 = (n + 1) / 512; omega)
      have eg : pg ⟨n, hn'⟩ = pg ⟨n + 1, hn⟩ := Fin.ext (by show n / 64 % 8 = (n + 1) / 64 % 8; omega)
      rw [eb, eg, show n % 64 + 1 = (n + 1) % 64 by omega]
      exact sup_block m c _ _ _ _ _ (fun x => rfl) (by omega)

/-- The first result. -/
theorem final6 (hp : Pos m) (c : Dev nD) : (dats m 0 c).arrAt 6 cfg0.N
    = Attn.outS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold outAt
  idx_vars y
  have e : ((View.whole main_v0_0).slice (win0_6.rect t)).emb (ix3 y0 y1 y2) = ix3 (pb t) (pq t y1) ⟨640 * (pg t).val + y2.val, by omega⟩ := by
    blk_ext [idx t, pb, pg, pq]
  rw [e]
  have y00 : y0 = 0 := by omega
  subst y00
  refine (outv_apply _ _ _ _ _ _ _ _ _).trans ((point m hp c t _ _).trans ?_)
  refine OM_congr m c (pb t) (Fin.ext ?_) (Fin.ext ?_) (Fin.ext ?_) (Fin.ext ?_)
  · show (pg t).val = (640 * (pg t).val + y2.val) / 640
    omega
  · show (128 * (y2.val / 160) + y1.val) / 128 = (640 * (pg t).val + y2.val) / 160 % 4
    omega
  · show 128 * (t.val % 64) + (128 * (y2.val / 160) + y1.val) % 128 = 128 * (t.val % 64) + y1.val
    omega
  · show y2.val % 160 = (640 * (pg t).val + y2.val) % 160
    omega

/-- The second result. -/
theorem final7 (hp : Pos m) (c : Dev nD) : (dats m 0 c).arrAt 7 cfg0.N
    = Attn.oaS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  have e : ((View.whole main_v0_1).slice (win0_7.rect t)).emb (ix4 y0 y1 y2 y3) = ix4 (pb t) (pg t) y2 y3 := by
    blk_ext [idx t, pb, pg]
  rw [e]
  have hf' : t.val % 64 = 63 := (flush0_7 t).mp hf
  have y00 : y0 = 0 := by omega
  have y10 : y1 = 0 := by omega
  subst y00 y10
  refine (oaAt_eq m hp c t.val t.isLt y2 y3).trans ?_
  rw [hf']
  refine (Attn.sup_fin 8192 fun q => Finset.univ.sup fun y : Fin 160 => (FloatOps.absf (F := Ideal) (φ := .f32) (OM m c (pb t) (pg t) y2 (Attn.fn q) y) : EReal)).symm.trans ?_
  simp only [Attn.fn_val]
  rfl

/-- The run with its results. -/
theorem run_value (hp : Pos m) : θ_run defs (onTc (τ := τ) (main (F := Ideal))) ⟨m, fun _ => 0, ρ⟩ (fun r => ∀ c : Dev nD,
    r.2.mem ((c.tc : Thread nD τ).loc main_v0_0) = Attn.outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v0_1) = Attn.oaS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (run_main (F := Ideal) m ρ)
  exact ⟨((h c).1 6).trans (final6 m hp c), ((h c).1 7).trans (final7 m hp c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩

end Cert.Proof.KernelIdeal
end
-- ==== Proof.RPay6.lean ====
/-
  The reference's weights, read at an index: the exponential of the masked scaled score less its row's maximum.
-/
module

public import proofs.«01_k».proof.Proof.Gen.ReferenceIdeal.Frame
public import Idealize.ShloMosaic.Lib.Pointwise

@[expose] public section

set_option maxRecDepth 16384

noncomputable section

namespace Cert.Proof.ReferenceIdeal

open Cert.ReferenceIdeal Cert.ReferenceIdeal.Gen

open Idealize.ShloMosaic Idealize.ShloMosaic.TcCoe

/-- The scaled score of query `q` of head `r` of group `g` against key `k`, masked. -/
def ms (v0 : Vec Ideal S2x32 .f32) (v1 : Vec Ideal S2x8 .f32) (v3 : Vec Ideal S2x32x160x8192 .fp8e4m3) (v6 : Vec Ideal S2x8x8192x160 .fp8e4m3)
    (b : Fin 2) (g : Fin 8) (r : Fin 4) (q k : Fin 8192) : EReal :=
  Scalar.select (IntOp.cmpi CmpIPredicate.sle (BitVec.ofNat 32 k.val) (BitVec.ofNat 32 q.val))
    ((∑ x : Fin 160, v3 (ix4 b ⟨g.val * 4 + r.val, by omega⟩ x q) * v6 (ix4 b g k x))
      * (v0 (ix2 b ⟨g.val * 4 + r.val, by omega⟩) * v1 (ix2 b g) * Ideal.ofBits FTy.f32 1034021019#32))
    (Ideal.ofBits FTy.f32 4286578688#32)

variable (v0 : Vec Ideal S2x32 .f32) (v1 v2 : Vec Ideal S2x8 .f32) (v3 : Vec Ideal S2x32x160x8192 .fp8e4m3) (v6 : Vec Ideal S2x8x8192x160 .fp8e4m3)

theorem pay6_apply (b : Fin 2) (g : Fin 8) (r : Fin 4) (q k : Fin 8192) :
    k0_pay6 v0 v1 v3 v6 (ix5 b g r q k)
      = Ideal.exp (ms v0 v1 v3 v6 b g r q k
          - Finset.fold max (Ideal.ofBits FTy.f32 4286578688#32) (fun x => ms v0 v1 v3 v6 b g r q x) Finset.univ) := by
  pointwise [k0_pay6]
  have e : ∀ h, (⟨(b.val * 8 + g.val) % 8 * 4 + (r.val * 8192 + q.val) / 8192, h⟩ : Fin 32) = ⟨g.val * 4 + r.val, by omega⟩ :=
    fun h => Fin.ext (by show (b.val * 8 + g.val) % 8 * 4 + (r.val * 8192 + q.val) / 8192 = g.val * 4 + r.val; omega)
  unfold ms
  simp only [e]

end Cert.Proof.ReferenceIdeal
end
-- ==== Proof.RPay1.lean ====
/-
  The reference's payloads other than the weights, read at an index.
-/
module

public import proofs.«01_k».proof.Proof.Gen.ReferenceIdeal.Frame
public import Idealize.ShloMosaic.Lib.Pointwise

@[expose] public section

set_option maxRecDepth 65536

noncomputable section

namespace Cert.Proof.ReferenceIdeal

open Cert.ReferenceIdeal Cert.ReferenceIdeal.Gen

open Idealize.ShloMosaic Idealize.ShloMosaic.TcCoe

variable (v0 : Vec Ideal S2x32 .f32) (v1 v2 : Vec Ideal S2x8 .f32) (v3 : Vec Ideal S2x32x160x8192 .fp8e4m3) (v6 : Vec Ideal S2x8x8192x160 .fp8e4m3) (v8 : Vec Ideal S2x8x160x8192 .fp8e4m3)
 (a10 : FVec Ideal S16x8192x160 .fp8e4m3) (a18 : FVec Ideal S2x8x1x1x1 .f32) (a33 : FVec Ideal S2x8x4x8192 .f32) (a35 : FVec Ideal S16x32768x8192 .fp8e4m3) (cst : FVec Ideal S16x32768x160 .f32)

/-- The values, transposed. -/
theorem pay4_apply (b : Fin 2) (g : Fin 8) (k : Fin 8192) (d : Fin 160) :
    k0_pay4 v8 (ix3 ⟨b.val * 8 + g.val, by omega⟩ k d) = v8 (ix4 b g d k) := by
  pointwise [k0_pay4]

/-- The value scale by group. -/
theorem pay5_apply (b : Fin 2) (g : Fin 8) : k0_pay5 v2 (ix5 b g 0 0 0) = v2 (ix2 b g) := by
  pointwise [k0_pay5]

/-- The sum of the weights. -/
theorem pay7_apply (b : Fin 2) (g : Fin 8) (r : Fin 4) (q : Fin 8192) :
    k0_pay7 v0 v1 v3 v6 (ix4 b g r q) = ∑ x : Fin 8192, k0_pay6 v0 v1 v3 v6 (ix5 b g r q x) := by
  pointwise [k0_pay7]

/-- The rounded weights, a row by head and query. -/
theorem pay8_apply (b : Fin 2) (g : Fin 8) (r : Fin 4) (q k : Fin 8192) :
    k0_pay8 v0 v1 v3 v6 (ix3 ⟨b.val * 8 + g.val, by omega⟩ ⟨r.val * 8192 + q.val, by omega⟩ k) = k0_pay6 v0 v1 v3 v6 (ix5 b g r q k) := by
  pointwise [k0_pay8]

/-- The normalised output. -/
theorem pay1_apply (b : Fin 2) (g : Fin 8) (r : Fin 4) (q : Fin 8192) (d : Fin 160) :
    k0_pay1 a10 a18 a33 a35 (constant S16x32768x160 .f32 0x00000000#32) (ix5 b g r q d) =
      (∑ x : Fin 8192, a35 (ix3 ⟨b.val * 8 + g.val, by omega⟩ ⟨r.val * 8192 + q.val, by omega⟩ x) * a10 (ix3 ⟨b.val * 8 + g.val, by omega⟩ x d))
        * Ideal.div (a18 (ix5 b g 0 0 0)) (a33 (ix4 b g r q)) := by
  pointwise [k0_pay1]

/-- The heads' maxima. -/
theorem pay2_apply (b : Fin 2) (g : Fin 8) (r : Fin 4) (q : Fin 128) :
    k0_pay2 a10 a18 a33 a35 cst (ix4 b g r q) =
      Finset.fold max (Ideal.ofBits FTy.f32 4286578688#32) (fun x : Fin 8192 => Finset.fold max (Ideal.ofBits FTy.f32 4286578688#32)
        (fun y : Fin 160 => FloatOps.absf (k0_pay1 a10 a18 a33 a35 cst (ix5 b g r x y))) Finset.univ) Finset.univ := by
  pointwise [k0_pay2]

/-- The output, a row by query. -/
theorem pay3_apply (b : Fin 2) (q : Fin 8192) (d : Fin 5120) :
    k0_pay3 a10 a18 a33 a35 cst (ix3 b q d) = k0_pay1 a10 a18 a33 a35 cst (ix5 b ⟨d.val / 640, by omega⟩ ⟨d.val / 160 % 4, by omega⟩ q ⟨d.val % 160, by omega⟩) := by
  pointwise [k0_pay3]

end Cert.Proof.ReferenceIdeal
end
-- ==== Proof.RValue.lean ====
/-
  The reference's results after its run are the claim's two functions of its arguments.
-/
module

public import proofs.«01_k».proof.Proof.RPay6
public import proofs.«01_k».proof.Proof.RPay1
public import proofs.«01_k».proof.Proof.Spec
public import Idealize.ShloMosaic.Lib.Pipeline.ValueKit

@[expose] public section

set_option maxRecDepth 16384

noncomputable section

namespace Cert.Proof.ReferenceIdeal

open Cert.ReferenceIdeal Cert.ReferenceIdeal.Gen

open Idealize.ShloMosaic Idealize.ShloMosaic.TcCoe Idealize.SL.Sem
open Cert.Proof

section Body

variable (x0 : Vec Ideal S2x32 .f32) (x1 x2 : Vec Ideal S2x8 .f32) (x3 : Vec Ideal S2x32x160x8192 .fp8e4m3) (x4 : Vec Ideal S2x8x8192x256 .fp8e4m3)
  (x5 : Vec Ideal S2x8x160x8192 .fp8e4m3)

/-- The keys without their padding. -/
theorem ldK (b : Fin 2) (g : Fin 8) (k : Fin 8192) (x : Fin 160) :
    View.ld x4 r0_3 (ix4 b g k x) = x4 (ix4 b g k ⟨x.val, by omega⟩) := by
  show x4 _ = x4 _
  congr 1
  funext a
  apply Fin.ext
  have e : (r0_3.emb (ix4 b g k x) a).val = (![0, 0, 0, 0] : Fin 4 → ℕ) a + 1 * ((ix4 b g k x : S2x8x8192x160.Idx) a).val := rfl
  refine e.trans ?_
  fin_cases a
  · show 0 + 1 * b.val = b.val; omega
  · show 0 + 1 * g.val = g.val; omega
  · show 0 + 1 * k.val = k.val; omega
  · show 0 + 1 * x.val = x.val; omega

theorem ms_eq (b : Fin 2) (g : Fin 8) (r : Fin 4) (q k : Fin 8192) :
    ms x0 x1 x3 (View.ld x4 r0_3) b g r q k = Attn.s (Attn.DD x3 x4 b g r q) q.val (Attn.ff x0 x1 b g r) k.val := by
  unfold ms Attn.s
  rw [Attn.select_sle k.val q.val (by omega) (by omega), Attn.ninf]
  congr 1
  unfold Attn.DD Attn.ff Attn.hd
  rw [Attn.fn_val]
  congr 1
  exact Finset.sum_congr rfl fun x _ => by rw [ldK, mul_comm]

/-- The weights. -/
theorem weight_eq (b : Fin 2) (g : Fin 8) (r : Fin 4) (q k : Fin 8192) :
    k0_pay6 x0 x1 x3 (View.ld x4 r0_3) (ix5 b g r q k) = Attn.rp (Attn.DD x3 x4 b g r q) q.val (Attn.ff x0 x1 b g r) k.val := by
  rw [pay6_apply]
  unfold Attn.rp
  rw [Attn.ninf, Attn.fold_max, ← Attn.sup_fin]
  simp only [ms_eq]

/-- The normalised output. -/
theorem o_eq (b : Fin 2) (g : Fin 8) (r : Fin 4) (q : Fin 8192) (d : Fin 160) :
    k0_pay1 (k0_pay4 x5) (k0_pay5 x2) (k0_pay7 x0 x1 x3 (View.ld x4 r0_3)) (k0_pay8 x0 x1 x3 (View.ld x4 r0_3))
        (constant S16x32768x160 .f32 0x00000000#32) (ix5 b g r q d)
      = Attn.OO x0 x1 x2 x3 x4 x5 b g r q d := by
  rw [pay1_apply, pay5_apply, pay7_apply]
  simp only [pay8_apply, pay4_apply, weight_eq]
  unfold Attn.OO Attn.osp
  rw [Finset.sum_range, Finset.sum_range]
  unfold Attn.VV
  simp only [Attn.fn_val]

theorem out6_eq : out0_6 x0 x1 x2 x3 x4 x5 = Attn.outS x0 x1 x2 x3 x4 x5 := by
  have e : out0_6 x0 x1 x2 x3 x4 x5
      = k0_pay3 (k0_pay4 x5) (k0_pay5 x2) (k0_pay7 x0 x1 x3 (View.ld x4 r0_3)) (k0_pay8 x0 x1 x3 (View.ld x4 r0_3)) (constant S16x32768x160 .f32 0x00000000#32) := by
    unfold out0_6 k0_pay10 k0_pay11 k0_pay12 k0_pay13 k0_pay9
    rw [View.canon_cons_unit_lit, View.ld_unit_lit, View.ld_unit_lit, View.ld_unit_lit, View.ld_unit_lit, View.ld_unit_lit]
    all_goals decide
  rw [e]
  funext y
  have hy : y = ix3 (y 0) (y 1) (y 2) := by
    funext a
    fin_cases a <;> rfl
  refine (congrArg _ hy).trans ?_
  exact (pay3_apply _ _ _ _ _ _ _ _).trans (o_eq x0 x1 x2 x3 x4 x5 _ _ _ _ _)

theorem oa_eq (b : Fin 2) (g : Fin 8) (r : Fin 4) (l : Fin 128) :
    k0_pay2 (k0_pay4 x5) (k0_pay5 x2) (k0_pay7 x0 x1 x3 (View.ld x4 r0_3)) (k0_pay8 x0 x1 x3 (View.ld x4 r0_3))
        (constant S16x32768x160 .f32 0x00000000#32) (ix4 b g r l)
      = Finset.univ.sup fun q : Fin 8192 => Finset.univ.sup fun d : Fin 160 =>
          (FloatOps.absf (F := Ideal) (φ := .f32) (Attn.OO x0 x1 x2 x3 x4 x5 b g r q d) : EReal) := by
  rw [pay2_apply, Attn.ninf, Attn.fold_max]
  refine Finset.sup_congr rfl fun q _ => ?_
  rw [Attn.fold_max]
  refine Finset.sup_congr rfl fun d _ => ?_
  rw [o_eq]

theorem out7_pay : out0_7 x0 x1 x2 x3 x4 x5
      = k0_pay2 (k0_pay4 x5) (k0_pay5 x2) (k0_pay7 x0 x1 x3 (View.ld x4 r0_3)) (k0_pay8 x0 x1 x3 (View.ld x4 r0_3)) (constant S16x32768x160 .f32 0x00000000#32) := by
  unfold out0_7 k0_pay10 k0_pay11 k0_pay12 k0_pay13 k0_pay9
  rw [View.canon_cons_unit_lit, View.ld_unit_lit, View.ld_unit_lit, View.ld_unit_lit, View.ld_unit_lit, View.ld_unit_lit]
  all_goals decide

theorem out7_eq : out0_7 x0 x1 x2 x3 x4 x5 = Attn.oaS x0 x1 x2 x3 x4 x5 := by
  rw [out7_pay]
  funext y
  have hy : y = ix4 (y 0) (y 1) (y 2) (y 3) := by
    funext a
    fin_cases a <;> rfl
  refine (congrArg _ hy).trans ?_
  exact oa_eq x0 x1 x2 x3 x4 x5 _ _ _ _

end Body

variable (m : (ℓ : Loc nD τ sig) → Buf (Elt Ideal) ℓ) (ρ : Dev nD → PrngReg)

/-- The one grid point. -/
def t₀ : Fin cfg0.N := ⟨0, by decide⟩

/-- Every window is a whole array. -/
theorem idx : ∀ t : Fin cfg0.N,
    win0_0.index t = ![0, 0] ∧ win0_1.index t = ![0, 0] ∧ win0_2.index t = ![0, 0] ∧ win0_3.index t = ![0, 0, 0, 0]
    ∧ win0_4.index t = ![0, 0, 0, 0] ∧ win0_5.index t = ![0, 0, 0, 0] :=
  (by decide +kernel : ∀ t : Fin grid0.N, _)

theorem blk0 (c : Dev nD) : iblk m c 0 t₀ = m ((c : Thread nD τ).loc main_arg0) := by blk_ext! [iblk, V, idx t₀]
theorem blk1 (c : Dev nD) : iblk m c 1 t₀ = m ((c : Thread nD τ).loc main_arg1) := by blk_ext! [iblk, V, idx t₀]
theorem blk2 (c : Dev nD) : iblk m c 2 t₀ = m ((c : Thread nD τ).loc main_arg2) := by blk_ext! [iblk, V, idx t₀]
theorem blk3 (c : Dev nD) : iblk m c 3 t₀ = m ((c : Thread nD τ).loc main_arg3) := by blk_ext! [iblk, V, idx t₀]
theorem blk4 (c : Dev nD) : iblk m c 4 t₀ = m ((c : Thread nD τ).loc main_arg4) := by blk_ext! [iblk, V, idx t₀]
theorem blk5 (c : Dev nD) : iblk m c 5 t₀ = m ((c : Thread nD τ).loc main_arg5) := by blk_ext! [iblk, V, idx t₀]

/-- The first result. -/
theorem final6 (c : Dev nD) : (dats m 0 c).arrAt 6 cfg0.N
    = Attn.outS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t₀ (by decide +kernel) _ fun j => ?_
  blk_simp
  rw [after0_6, blk0, blk1, blk2, blk3, blk4, blk5, out6_eq]

/-- The second result. -/
theorem final7 (c : Dev nD) : (dats m 0 c).arrAt 7 cfg0.N
    = Attn.oaS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 7 t₀ (by decide +kernel) _ fun j => ?_
  blk_simp
  rw [after0_7, blk0, blk1, blk2, blk3, blk4, blk5, out7_eq]

/-- The run with its results. -/
theorem run_value : θ_run defs (onTc (τ := τ) (main (F := Ideal))) ⟨m, fun _ => 0, ρ⟩ (fun r => ∀ c : Dev nD,
    r.2.mem ((c.tc : Thread nD τ).loc main_v0_0) = Attn.outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v0_1) = Attn.oaS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (run_main (F := Ideal) m ρ)
  exact ⟨((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩

end Cert.Proof.ReferenceIdeal
end
-- ==== Proof.Alg.lean ====
/-
  The algebraic claim: from equal arguments with positive scales both programs end with the same two results.
-/
module

public import proofs.«01_k».proof.Defs
public import proofs.«01_k».proof.Proof.KIOut
public import proofs.«01_k».proof.Proof.RValue

@[expose] public section

set_option maxRecDepth 16384

noncomputable section

namespace Cert.Proof

open Idealize.ShloMosaic Idealize.SL.Sem Idealize.ShloMosaic.TcCoe

/-- The precondition's side conditions. -/
theorem pre_facts : Cert.Pre_scales_positive.Facts where
  bcast_S_S2x32 := by decide
  bcast_S_S2x8 := by decide

/-- The precondition says the scales are positive. -/
theorem pos_of_pre (m : (ℓ : Loc Cert.KernelIdeal.nD Cert.KernelIdeal.τ Cert.KernelIdeal.sig) → Buf (Elt Ideal) ℓ)
    (h : Cert.Pre_KernelIdeal_scales_positive (hPre_scales_positive := pre_facts) m) : KernelIdeal.Pos m := by
  intro c
  obtain ⟨h1, h2⟩ := h c
  constructor
  · intro b k
    have e := congrFun h1 (ix2 b k)
    unfold Cert.Pre_scales_positive.fn at e
    pointwise at e
    by_contra hn
    rw [decide_eq_false hn] at e
    exact absurd e (by decide)
  · intro b k
    have e := congrFun h2 (ix2 b k)
    unfold Cert.Pre_scales_positive.fn at e
    pointwise at e
    by_contra hn
    rw [decide_eq_false hn] at e
    exact absurd e (by decide)

theorem algebraic : Cert.algebraic_KernelIdeal_ReferenceIdeal_pre_scales_positive (hKernelIdeal := Cert.KernelIdeal.Gen.facts)
    (hReferenceIdeal := Cert.ReferenceIdeal.Gen.facts) (hPre_scales_positive := pre_facts) := by
  intro m g m' g' hpre hargs
  refine ⟨_, _, KernelIdeal.run_value m g (pos_of_pre m hpre), ?_⟩
  refine (θ_run (Cert.ReferenceIdeal.defs (F := Ideal)) _ _).mono (fun r h c => ?_) (ReferenceIdeal.run_value m' g')
  obtain ⟨e0, e1, hr⟩ := h c
  obtain ⟨a0, a1, a2, a3, a4, a5⟩ := hargs c
  refine ⟨e0.trans ?_, e1.trans ?_, hr⟩
  · rw [a0, a1, a2, a3, a4, a5]
  · rw [a0, a1, a2, a3, a4, a5]

end Cert.Proof
end
-- ==== Proof.Prep.lean ====
/-
  What the two preparations compute: codes (a value over its head's scale, bounded to the range of the eight-bit format) and
  the largest absolute value of each head, as functions of the argument arrays.
-/
module

public import proofs.«01_k».proof.Proof.KMath
public import Idealize.ShloMosaic.Lib.Pointwise

@[expose] public section

set_option maxRecDepth 16384

noncomputable section

namespace Cert.Proof.Prep

open Idealize.ShloMosaic

/-- A value times the reciprocal of its scale, bounded to −448 … 448. -/
def code (v s : EReal) : EReal :=
  min (Ideal.ofBits FTy.f32 1138753536#32) (max (Ideal.ofBits FTy.f32 3286237184#32) (v * Ideal.div 1 s))

/-- The largest absolute value of a head, over its rows and channels. -/
def amx (f : Fin 8192 → Fin 160 → EReal) : EReal :=
  Finset.univ.sup fun s => Finset.univ.sup fun d => FloatOps.absf (F := Ideal) (φ := .f32) (f s d)

/-- The codes of keys or values. -/
def kcode (s : Vec Ideal ⟨2, ![2, 8]⟩ .f32) (x : Vec Ideal ⟨4, ![2, 8, 160, 8192]⟩ .bf16) : Vec Ideal ⟨4, ![2, 8, 160, 8192]⟩ .fp8e4m3 :=
  fun i => code (x (ix4 (i 0) (i 1) (i 2) (i 3))) (s (ix2 (i 0) (i 1)))

/-- The codes of the keys by rows, each row followed by 96 zeros. -/
def krow (s : Vec Ideal ⟨2, ![2, 8]⟩ .f32) (x : Vec Ideal ⟨4, ![2, 8, 160, 8192]⟩ .bf16) : Vec Ideal ⟨4, ![2, 8, 8192, 256]⟩ .fp8e4m3 :=
  fun i => if h : (i 3).val < 160 then code (x (ix4 (i 0) (i 1) ⟨(i 3).val, h⟩ (i 2))) (s (ix2 (i 0) (i 1))) else (0 : EReal)

/-- The largest absolute keys or values. -/
def kmax (x : Vec Ideal ⟨4, ![2, 8, 160, 8192]⟩ .bf16) : Vec Ideal ⟨4, ![2, 8, 1, 128]⟩ .f32 :=
  fun i => amx fun s d => x (ix4 (i 0) (i 1) d s)

/-- The channel `d` of head `h` in a row of queries. -/
def ch (h : Fin 32) (d : Fin 160) : Fin 5120 := ⟨h.val * 160 + d.val, by omega⟩

/-- Query head `r` of group `g`. -/
def hd (g : Fin 8) (r : Fin 4) : Fin 32 := ⟨g.val * 4 + r.val, by omega⟩

/-- The codes of the queries. -/
def qcode (s : Vec Ideal ⟨2, ![2, 32]⟩ .f32) (x : Vec Ideal ⟨3, ![2, 8192, 5120]⟩ .bf16) : Vec Ideal ⟨4, ![2, 32, 160, 8192]⟩ .fp8e4m3 :=
  fun i => code (x (ix3 (i 0) (i 3) (ch (i 1) (i 2)))) (s (ix2 (i 0) (i 1)))

/-- The largest absolute queries. -/
def qmax (x : Vec Ideal ⟨3, ![2, 8192, 5120]⟩ .bf16) : Vec Ideal ⟨4, ![2, 8, 4, 128]⟩ .f32 :=
  fun i => amx fun s d => x (ix3 (i 0) s (ch (hd (i 1) (i 2)) d))

/-- The maximum over the entries that two of the axes select is the maximum over the other two axes. -/
theorem sup_slab {A S H D : ℕ} (P : (⟨4, ![A, S, H, D]⟩ : Shape).Idx → Prop) [DecidablePred P] (b : Fin A) (h : Fin H)
    (hP : ∀ i, P i ↔ i 0 = b ∧ i 2 = h) (f : (⟨4, ![A, S, H, D]⟩ : Shape).Idx → EReal) :
    (Finset.univ.filter P).sup f = Finset.univ.sup fun s : Fin S => Finset.univ.sup fun d : Fin D => f (ix4 b s h d) := by
  refine le_antisymm (Finset.sup_le fun i hi => ?_) (Finset.sup_le fun s _ => Finset.sup_le fun d _ => ?_)
  · obtain ⟨h0, h2⟩ := (hP i).1 (by simpa using hi)
    have e : i = ix4 b (i 1) h (i 3) := by
      subst h0 h2
      funext a; fin_cases a <;> rfl
    rw [e]
    exact (Finset.le_sup (f := fun d : Fin D => f (ix4 b (i 1) h d)) (Finset.mem_univ (i 3))).trans
      (Finset.le_sup (f := fun s : Fin S => Finset.univ.sup fun d : Fin D => f (ix4 b s h d)) (Finset.mem_univ (i 1)))
  · exact Finset.le_sup (f := f) (by simpa using (hP (ix4 b s h d)).2 ⟨rfl, rfl⟩)

/-- A row's largest absolute value, by the row's number. -/
def rowmax (f : Fin 8192 → Fin 160 → EReal) (n : ℕ) : EReal :=
  Finset.univ.sup fun d => FloatOps.absf (F := Ideal) (φ := .f32) (f (Attn.fn n) d)

/-- The maximum over the first `1024 * n` rows. -/
def upto (f : Fin 8192 → Fin 160 → EReal) (n : ℕ) : EReal := (Finset.range (1024 * n)).sup (rowmax f)

theorem upto_zero (f : Fin 8192 → Fin 160 → EReal) : upto f 0 = ⊥ := rfl

/-- A block of 1024 rows joined to the earlier ones. -/
theorem upto_succ (f : Fin 8192 → Fin 160 → EReal) (n : ℕ) (hn : n < 8) (g : Fin 1024 → Fin 160 → EReal)
    (hg : ∀ (l : Fin 1024) (d : Fin 160), g l d = f ⟨1024 * n + l.val, by omega⟩ d) :
    max (upto f n) (Finset.univ.sup fun l => Finset.univ.sup fun d => FloatOps.absf (F := Ideal) (φ := .f32) (g l d)) = upto f (n + 1) := by
  refine Eq.trans ?_ (Attn.sup_step (1024 * n) 1024 (rowmax f))
  refine congrArg (max _) (Finset.sup_congr rfl fun l _ => Finset.sup_congr rfl fun d _ => ?_)
  rw [hg]
  have e : Attn.fn (1024 * n + l.val) = ⟨1024 * n + l.val, by omega⟩ := Fin.ext (Nat.mod_eq_of_lt (by omega))
  rw [e]

/-- The maximum over all the rows. -/
theorem upto_all (f : Fin 8192 → Fin 160 → EReal) : upto f 8 = amx f := by
  refine (Attn.sup_fin 8192 (rowmax f)).symm.trans ?_
  unfold rowmax amx
  simp only [Attn.fn_val]

/-- The padding's code. -/
theorem zero_code : Ideal.ofBits FTy.fp8e4m3 0#8 = (0 : EReal) := by
  show Ideal.e4m3fn 0#8 = 0
  unfold Ideal.e4m3fn
  simp

end Cert.Proof.Prep
end
-- ==== Proof.KvVal.lean ====
/-
  The keys' and values' preparation kernel: its results after its run are the claim's functions of its arguments.
-/
module

public import proofs.«01_k».proof.Proof.Prep
public import proofs.«01_k».proof.Proof.Gen.KvPrepIdeal.Frame
public import Idealize.ShloMosaic.Lib.Pipeline.ValueKit

@[expose] public section

set_option maxRecDepth 16384

noncomputable section

namespace Cert.Proof.KvPrepIdeal

open Cert.KvPrepIdeal Cert.KvPrepIdeal.Gen

open Idealize.ShloMosaic Idealize.ShloMosaic.TcCoe Idealize.SL.Sem
open Cert.Proof

variable (m : (ℓ : Loc nD τ sig) → Buf (Elt Ideal) ℓ) (ρ : Dev nD → PrngReg)

/-- The windows' block indices at a point. -/
theorem idx : ∀ t : Fin cfg0.N,
    win0_0.index t = ![0, 0] ∧ win0_1.index t = ![0, 0]
    ∧ win0_2.index t = ![t.val / 64, t.val / 8 % 8, 0, t.val % 8] ∧ win0_3.index t = ![t.val / 64, t.val / 8 % 8, 0, t.val % 8]
    ∧ win0_4.index t = ![t.val / 64, t.val / 8 % 8, 0, t.val % 8] ∧ win0_5.index t = ![t.val / 64, t.val / 8 % 8, 0, t.val % 8]
    ∧ win0_6.index t = ![t.val / 64, t.val / 8 % 8, t.val % 8, 0]
    ∧ win0_7.index t = ![t.val / 64, t.val / 8 % 8, 0, 0] ∧ win0_8.index t = ![t.val / 64, t.val / 8 % 8, 0, 0] :=
  (by decide +kernel : ∀ t : Fin grid0.N, _)

/-- A point's coordinates. -/
theorem crd : ∀ t : Fin cfg0.N, (grid0.coords t 0).val = t.val / 64 ∧ (grid0.coords t 1).val = t.val / 8 % 8 ∧ (grid0.coords t 2).val = t.val % 8 :=
  (by decide +kernel : ∀ t : Fin grid0.N, _)

theorem lt_N (t : Fin cfg0.N) : t.val < 128 := t.isLt

/-- The batch, the head and the rows of point `t`. -/
def pb (t : Fin cfg0.N) : Fin 2 := ⟨t.val / 64, by have := lt_N t; omega⟩
def pg (t : Fin cfg0.N) : Fin 8 := ⟨t.val / 8 % 8, by omega⟩
def pl (t : Fin cfg0.N) (a : Fin 1024) : Fin 8192 := ⟨1024 * (t.val % 8) + a.val, by omega⟩

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]

theorem blk2 (c : Dev nD) (t : Fin cfg0.N) (d : Fin 160) (a : Fin 1024) :
    iblk m c 2 t (ix4 0 0 d a) = m ((c : Thread nD τ).loc main_arg2) (ix4 (pb t) (pg t) d (pl t a)) := by
  blk_ext [iblk, V, idx t, pb, pg, pl]

theorem blk3 (c : Dev nD) (t : Fin cfg0.N) (d : Fin 160) (a : Fin 1024) :
    iblk m c 3 t (ix4 0 0 d a) = m ((c : Thread nD τ).loc main_arg3) (ix4 (pb t) (pg t) d (pl t a)) := by
  blk_ext [iblk, V, idx t, pb, pg, pl]

/-- The head's scale, as the body reads it. -/
def sg (i : grid0.Coords) (x : Vec Ideal S2x8 .f32) : EReal :=
  View.ld x (Rect.unit (s := S2x8) (k0_off1 i) S1x1.size (k0_off1_inb i)) (Shape.Idx.first (Nat.lt_of_lt_of_eq Nat.one_pos numel1_S1x1.symm))

theorem sg_eq (i : grid0.Coords) (x : Vec Ideal S2x8 .f32) : sg i x = x (ix2 (i 0) (i 1)) := by
  show x _ = x _
  congr 1
  funext b
  apply Fin.ext
  have e : ((Rect.unit (s := S2x8) (k0_off1 i) S1x1.size (k0_off1_inb i)).emb (Shape.Idx.first (Nat.lt_of_lt_of_eq Nat.one_pos numel1_S1x1.symm)) b).val
    = (k0_off1 i) b + 1 * ((Shape.Idx.first (Nat.lt_of_lt_of_eq Nat.one_pos numel1_S1x1.symm) : S1x1.Idx) b).val := rfl
  refine e.trans ?_
  rw [k0_off1_eq]
  fin_cases b <;> rfl

theorem sg_pt (t : Fin cfg0.N) (x : Vec Ideal S2x8 .f32) : sg (grid0.coords t) x = x (ix2 (pb t) (pg t)) := by
  obtain ⟨h0, h1, _⟩ := crd t
  rw [sg_eq]
  exact congrArg x (congrArg₂ ix2 (Fin.ext h0) (Fin.ext h1))

theorem p11 (x : Vec Ideal S1x1x160x1024 .bf16) (s : EReal) (d : Fin 160) (l : Fin 1024) :
    k0_pay11 (F := Ideal) x s (ix4 0 0 d l) = Prep.code (x (ix4 0 0 d l)) s := by
  pointwise [k0_pay11, k0_pay10, k0_pay8, Prep.code]

theorem p12 (x : Vec Ideal S1x1x160x1024 .bf16) (s : EReal) (d : Fin 160) (l : Fin 1024) :
    k0_pay12 (F := Ideal) x s (ix4 0 0 d l) = Prep.code (x (ix4 0 0 d l)) s := by
  pointwise [k0_pay12, k0_pay9, Prep.code]

theorem p1 (x : Vec Ideal S1x1x160x1024 .bf16) (s : EReal) (l : Fin 1024) (d : Fin 256) :
    k0_pay1 (F := Ideal) (k0_pay8 x) (k0_pay10 s) (ix4 0 0 l d)
      = if h : d.val < 160 then Prep.code (x (ix4 0 0 ⟨d.val, h⟩ l)) s else (0 : EReal) := by
  pointwise [k0_pay1, k0_pay10, k0_pay8, Prep.code]
  rw [Prep.zero_code]

/-- The largest absolute value of a block. -/
def bmax (x : Vec Ideal S1x1x160x1024 .bf16) : EReal :=
  Finset.univ.sup fun l : Fin 1024 => Finset.univ.sup fun d : Fin 160 => FloatOps.absf (F := Ideal) (φ := .f32) (x (ix4 0 0 d l))

theorem p4 (x : Vec Ideal S1x1x160x1024 .bf16) (l : Fin 128) : k0_pay4 (F := Ideal) (k0_pay8 x) (ix4 0 0 0 l) = bmax x := by
  pointwise [k0_pay4, k0_pay2, k0_pay8]
  rw [Attn.ninf]
  rfl

theorem p5 (x : Vec Ideal S1x1x160x1024 .bf16) (l : Fin 128) : k0_pay5 (F := Ideal) (k0_pay9 x) (ix4 0 0 0 l) = bmax x := by
  pointwise [k0_pay5, k0_pay3, k0_pay9]
  rw [Attn.ninf]
  rfl

theorem p6 (x : Vec Ideal S1x1x160x1024 .bf16) (a : Vec Ideal S1x1x1x128 .f32) (l : Fin 128) :
    k0_pay6 (F := Ideal) (k0_pay8 x) a (ix4 0 0 0 l) = max (a (ix4 0 0 0 l)) (bmax x) := by
  pointwise [k0_pay6, k0_pay2, k0_pay8]
  rw [Attn.ninf]
  rfl

theorem p7 (x : Vec Ideal S1x1x160x1024 .bf16) (a : Vec Ideal S1x1x1x128 .f32) (l : Fin 128) :
    k0_pay7 (F := Ideal) (k0_pay9 x) a (ix4 0 0 0 l) = max (a (ix4 0 0 0 l)) (bmax x) := by
  pointwise [k0_pay7, k0_pay3, k0_pay9]
  rw [Attn.ninf]
  rfl

/-! ### The body's outputs at a point -/

theorem o4 (c : Dev nD) (t : Fin cfg0.N) : (outsAt0 m c t.val t.isLt).1 = k0_pay11 (iblk m c 2 t) (sg (grid0.coords t) (iblk m c 0 t)) := by
  by_cases h : t.val % 8 = 0
  · rw [outsAt0_A m c t h (by omega)]; frame_out; rfl
  · rw [outsAt0_B m c t h (by omega)]; frame_out; rfl

theorem o5 (c : Dev nD) (t : Fin cfg0.N) : (outsAt0 m c t.val t.isLt).2.1 = k0_pay12 (iblk m c 3 t) (sg (grid0.coords t) (iblk m c 1 t)) := by
  by_cases h : t.val % 8 = 0
  · rw [outsAt0_A m c t h (by omega)]; frame_out; rfl
  · rw [outsAt0_B m c t h (by omega)]; frame_out; rfl

theorem o6 (c : Dev nD) (t : Fin cfg0.N) :
    (outsAt0 m c t.val t.isLt).2.2.1 = k0_pay1 (k0_pay8 (iblk m c 2 t)) (k0_pay10 (sg (grid0.coords t) (iblk m c 0 t))) := by
  by_cases h : t.val % 8 = 0
  · rw [outsAt0_A m c t h (by omega)]; frame_out; rfl
  · rw [outsAt0_B m c t h (by omega)]; frame_out; rfl

theorem o7_first (c : Dev nD) (t : Fin cfg0.N) (h : t.val % 8 = 0) : (outsAt0 m c t.val t.isLt).2.2.2.1 = k0_pay4 (k0_pay8 (iblk m c 2 t)) := by
  rw [outsAt0_A m c t h (by omega)]; frame_out

theorem o8_first (c : Dev nD) (t : Fin cfg0.N) (h : t.val % 8 = 0) : (outsAt0 m c t.val t.isLt).2.2.2.2 = k0_pay5 (k0_pay9 (iblk m c 3 t)) := by
  rw [outsAt0_A m c t h (by omega)]; frame_out

theorem o7_rest (c : Dev nD) (t : Fin cfg0.N) (h : ¬t.val % 8 = 0) : (outsAt0 m c t.val t.isLt).2.2.2.1
    = k0_pay6 (k0_pay8 (iblk m c 2 t)) (outsAt0 m c (t.val - 1) (Nat.lt_of_le_of_lt (Nat.sub_le _ _) t.isLt)).2.2.2.1 := by
  rw [outsAt0_B m c t h (by omega)]; frame_out

theorem o8_rest (c : Dev nD) (t : Fin cfg0.N) (h : ¬t.val % 8 = 0) : (outsAt0 m c t.val t.isLt).2.2.2.2
    = k0_pay7 (k0_pay9 (iblk m c 3 t)) (outsAt0 m c (t.val - 1) (Nat.lt_of_le_of_lt (Nat.sub_le _ _) t.isLt)).2.2.2.2 := by
  rw [outsAt0_B m c t h (by omega)]; frame_out

/-! ### The running maxima -/

/-- A head's values by row and channel. -/
def hv (x : Vec Ideal S2x8x160x8192 .bf16) (b : Fin 2) (g : Fin 8) (s : Fin 8192) (d : Fin 160) : EReal := x (ix4 b g d s)

theorem bmax_step (x : Vec Ideal S2x8x160x8192 .bf16) (B : Vec Ideal S1x1x160x1024 .bf16) (t : Fin cfg0.N)
    (hB : ∀ (d : Fin 160) (a : Fin 1024), B (ix4 0 0 d a) = x (ix4 (pb t) (pg t) d (pl t a))) (n : ℕ) (hn : t.val % 8 = n) :
    max (Prep.upto (hv x (pb t) (pg t)) n) (bmax B) = Prep.upto (hv x (pb t) (pg t)) (n + 1) := by
  subst hn
  exact Prep.upto_succ _ _ (by omega) (fun l d => B (ix4 0 0 d l)) fun l d => hB d l

/-- A running maximum that starts over at each head's first block. -/
theorem running (x : Vec Ideal S2x8x160x8192 .bf16) (B : Fin cfg0.N → Vec Ideal S1x1x160x1024 .bf16)
    (hB : ∀ t (d : Fin 160) (a : Fin 1024), B t (ix4 0 0 d a) = x (ix4 (pb t) (pg t) d (pl t a)))
    (o : (n : ℕ) → n < cfg0.N → Vec Ideal S1x1x1x128 .f32)
    (hf : ∀ (t : Fin cfg0.N) (l : Fin 128), t.val % 8 = 0 → o t.val t.isLt (ix4 0 0 0 l) = bmax (B t))
    (hr : ∀ (t : Fin cfg0.N) (l : Fin 128), ¬t.val % 8 = 0 → o t.val t.isLt (ix4 0 0 0 l)
      = max (o (t.val - 1) (Nat.lt_of_le_of_lt (Nat.sub_le _ _) t.isLt) (ix4 0 0 0 l)) (bmax (B t)))
    (n : ℕ) (hn : n < cfg0.N) (l : Fin 128) :
    o n hn (ix4 0 0 0 l) = Prep.upto (hv x (pb ⟨n, hn⟩) (pg ⟨n, hn⟩)) (n % 8 + 1) := by
  induction n with
  | zero =>
    rw [show o 0 hn (ix4 0 0 0 l) = _ from hf ⟨0, hn⟩ l rfl, ← bmax_step x _ ⟨0, hn⟩ (hB _) (0 % 8) rfl]
    exact (bot_sup_eq _).symm
  | succ n ih =>
    by_cases h0 : (n + 1) % 8 = 0
    · rw [show o (n + 1) hn (ix4 0 0 0 l) = _ from hf ⟨n + 1, hn⟩ l h0, ← bmax_step x _ ⟨n + 1, hn⟩ (hB _) _ rfl]
      simp only [h0]
      exact (bot_sup_eq _).symm
    · have hn' : n < cfg0.N := Nat.lt_of_succ_lt hn
      have hN : n + 1 < 128 := hn
      rw [show o (n + 1) hn (ix4 0 0 0 l) = _ from hr ⟨n + 1, hn⟩ l h0,
        show o ((⟨n + 1, hn⟩ : Fin cfg0.N).val - 1) _ (ix4 0 0 0 l) = _ from ih hn']
      have eb : pb ⟨n, hn'⟩ = pb ⟨n + 1, hn⟩ := Fin.ext (by show n / 64 = (n + 1) / 64; omega)
      have eg : pg ⟨n, hn'⟩ = pg ⟨n + 1, hn⟩ := Fin.ext (by show n / 8 % 8 = (n + 1) / 8 % 8; omega)
      rw [eb, eg]
      have h1 : n % 8 + 1 = (n + 1) % 8 := by omega
      rw [h1]
      exact bmax_step x _ _ (hB _) _ rfl

theorem o7_eq (c : Dev nD) (n : ℕ) (hn : n < cfg0.N) (l : Fin 128) : (outsAt0 m c n hn).2.2.2.1 (ix4 0 0 0 l)
    = Prep.upto (hv (m ((c : Thread nD τ).loc main_arg2)) (pb ⟨n, hn⟩) (pg ⟨n, hn⟩)) (n % 8 + 1) :=
  running (m ((c : Thread nD τ).loc main_arg2)) (fun t => iblk m c 2 t) (fun t d a => blk2 m c t d a) (fun n hn => (outsAt0 m c n hn).2.2.2.1)
    (fun t l h => by rw [o7_first m c t h, p4]) (fun t l h => by rw [o7_rest m c t h, p6]) n hn l

theorem o8_eq (c : Dev nD) (n : ℕ) (hn : n < cfg0.N) (l : Fin 128) : (outsAt0 m c n hn).2.2.2.2 (ix4 0 0 0 l)
    = Prep.upto (hv (m ((c : Thread nD τ).loc main_arg3)) (pb ⟨n, hn⟩) (pg ⟨n, hn⟩)) (n % 8 + 1) :=
  running (m ((c : Thread nD τ).loc main_arg3)) (fun t => iblk m c 3 t) (fun t d a => blk3 m c t d a) (fun n hn => (outsAt0 m c n hn).2.2.2.2)
    (fun t l h => by rw [o8_first m c t h, p5]) (fun t l h => by rw [o8_rest m c t h, p7]) n hn l

/-! ### The result arrays -/

theorem final4 (c : Dev nD) : (dats m 0 c).arrAt 4 cfg0.N
    = Prep.kcode (m ((c : Thread nD τ).loc main_arg0)) (m ((c : Thread nD τ).loc main_arg2)) := by
  refine (dats m 0 c).arrAt_eq_of_covers 4 _ (by decide +kernel) fun t hf y => ?_
  blk_simp
  rw [after0_4, o4]
  idx_vars y
  have e : ((View.whole main_v0_0).slice (win0_4.rect t)).emb (ix4 y0 y1 y2 y3) = ix4 (pb t) (pg t) y2 (pl t y3) := by
    blk_ext [idx t, pb, pg, pl]
  rw [e]
  have y00 : y0 = 0 := by omega
  have y10 : y1 = 0 := by omega
  subst y00 y10
  rw [p11, blk2, sg_pt, blk0]
  rfl

theorem final5 (c : Dev nD) : (dats m 0 c).arrAt 5 cfg0.N
    = Prep.kcode (m ((c : Thread nD τ).loc main_arg1)) (m ((c : Thread nD τ).loc main_arg3)) := by
  refine (dats m 0 c).arrAt_eq_of_covers 5 _ (by decide +kernel) fun t hf y => ?_
  blk_simp
  rw [after0_5, o5]
  idx_vars y
  have e : ((View.whole main_v0_1).slice (win0_5.rect t)).emb (ix4 y0 y1 y2 y3) = ix4 (pb t) (pg t) y2 (pl t y3) := by
    blk_ext [idx t, pb, pg, pl]
  rw [e]
  have y00 : y0 = 0 := by omega
  have y10 : y1 = 0 := by omega
  subst y00 y10
  rw [p12, blk3, sg_pt, blk1]
  rfl

theorem final6 (c : Dev nD) : (dats m 0 c).arrAt 6 cfg0.N
    = Prep.krow (m ((c : Thread nD τ).loc main_arg0)) (m ((c : Thread nD τ).loc main_arg2)) := by
  refine (dats m 0 c).arrAt_eq_of_covers 6 _ (by decide +kernel) fun t hf y => ?_
  blk_simp
  rw [after0_6, o6]
  idx_vars y
  have e : ((View.whole main_v0_2).slice (win0_6.rect t)).emb (ix4 y0 y1 y2 y3) = ix4 (pb t) (pg t) (pl t y2) y3 := by
    blk_ext [idx t, pb, pg, pl]
  rw [e]
  have y00 : y0 = 0 := by omega
  have y10 : y1 = 0 := by omega
  subst y00 y10
  rw [p1]
  simp only [blk2, sg_pt, blk0]
  rfl

theorem final7 (c : Dev nD) : (dats m 0 c).arrAt 7 cfg0.N = Prep.kmax (m ((c : Thread nD τ).loc main_arg2)) := by
  refine (dats m 0 c).arrAt_eq_of_covers 7 _ (by decide +kernel) fun t hf y => ?_
  blk_simp
  rw [after0_7]
  idx_vars y
  have e : ((View.whole main_v0_3).slice (win0_7.rect t)).emb (ix4 y0 y1 y2 y3) = ix4 (pb t) (pg t) y2 y3 := by
    blk_ext [idx t, pb, pg]
  rw [e]
  have hf' : t.val % 8 = 7 := (flush0_7 t).mp hf
  have y00 : y0 = 0 := by omega
  have y10 : y1 = 0 := by omega
  have y20 : y2 = 0 := by omega
  subst y00 y10 y20
  rw [o7_eq, hf', Prep.upto_all]
  rfl

theorem final8 (c : Dev nD) : (dats m 0 c).arrAt 8 cfg0.N = Prep.kmax (m ((c : Thread nD τ).loc main_arg3)) := by
  refine (dats m 0 c).arrAt_eq_of_covers 8 _ (by decide +kernel) fun t hf y => ?_
  blk_simp
  rw [after0_8]
  idx_vars y
  have e : ((View.whole main_v0_4).slice (win0_8.rect t)).emb (ix4 y0 y1 y2 y3) = ix4 (pb t) (pg t) y2 y3 := by
    blk_ext [idx t, pb, pg]
  rw [e]
  have hf' : t.val % 8 = 7 := (flush0_8 t).mp hf
  have y00 : y0 = 0 := by omega
  have y10 : y1 = 0 := by omega
  have y20 : y2 = 0 := by omega
  subst y00 y10 y20
  rw [o8_eq, hf', Prep.upto_all]
  rfl

/-- The run with its results. -/
theorem run_value : θ_run defs (onTc (τ := τ) (main (F := Ideal))) ⟨m, fun _ => 0, ρ⟩ (fun r => ∀ c : Dev nD,
    r.2.mem ((c.tc : Thread nD τ).loc main_v0_0) = Prep.kcode (m ((c : Thread nD τ).loc main_arg0)) (m ((c : Thread nD τ).loc main_arg2))
    ∧ r.2.mem ((c.tc : Thread nD τ).loc main_v0_1) = Prep.kcode (m ((c : Thread nD τ).loc main_arg1)) (m ((c : Thread nD τ).loc main_arg3))
    ∧ r.2.mem ((c.tc : Thread nD τ).loc main_v0_2) = Prep.krow (m ((c : Thread nD τ).loc main_arg0)) (m ((c : Thread nD τ).loc main_arg2))
    ∧ r.2.mem ((c.tc : Thread nD τ).loc main_v0_3) = Prep.kmax (m ((c : Thread nD τ).loc main_arg2))
    ∧ r.2.mem ((c.tc : Thread nD τ).loc main_v0_4) = Prep.kmax (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ?_) (run_main (F := Ideal) m ρ)
  exact ⟨((h c).1 4).trans (final4 m c), ((h c).1 5).trans (final5 m c), ((h c).1 6).trans (final6 m c),
    ((h c).1 7).trans (final7 m c), ((h c).1 8).trans (final8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩

end Cert.Proof.KvPrepIdeal
end
-- ==== Proof.KvRef.lean ====
/-
  The reference of the keys' and values' preparation: its results after its run are the claim's functions of its arguments.
-/
module

public import proofs.«01_k».proof.Proof.Prep
public import proofs.«01_k».proof.Proof.Gen.KvRefIdeal
public import Idealize.ShloMosaic.Lib.Claim
public import Idealize.ShloMosaic.Lib.StableHlo.Run

@[expose] public section

set_option maxRecDepth 16384

noncomputable section

namespace Cert.Proof.KvRef

open Idealize.ShloMosaic Idealize.ShloMosaic.TcCoe Idealize.SL.Sem
open Cert.KvRefIdeal Cert.KvRefIdeal.Gen
open Cert.Proof

/-- The maximum over the rows and channels of a head. -/
theorem drop_iff (h : S2x8192x8x160.ReducesTo [1, 3] S2x8) (b : Fin 2) (g : Fin 8) (i : S2x8192x8x160.Idx) :
    h.drop i = ix2 b g ↔ i 0 = b ∧ i 2 = g := by
  have e : h.drop i = ix2 (i 0) (i 2) := by funext a; fin_cases a <;> rfl
  rw [e]
  exact ix2_inj ..

theorem kmax_at (h : S2x8192x8x160.ReducesTo [1, 3] S2x8) (x : Vec Ideal S2x8x160x8192 .bf16) (b : Fin 2) (g : Fin 8) (r : Fin 1) (l : Fin 128) :
    Finset.fold max (Ideal.ofBits FTy.f32 4286578688#32)
      (fun i : S2x8192x8x160.Idx => (FloatOps.absf (F := Ideal) (φ := .f32) (x (ix4 (i 0) (i 2) (i 3) (i 1))) : EReal)) {i | h.drop i = ix2 b g}
      = Prep.kmax x (ix4 b g r l) := by
  rw [Attn.ninf, Attn.fold_max]
  exact Prep.sup_slab _ b g (drop_iff h b g) _

/-- The run with its results. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v39) = Prep.kcode (m ((c.tc : Thread nD τ).loc main_arg0)) (m ((c.tc : Thread nD τ).loc main_arg2))
      ∧ r.2.mem ((c.tc : Thread nD τ).loc main_v40) = Prep.kcode (m ((c.tc : Thread nD τ).loc main_arg1)) (m ((c.tc : Thread nD τ).loc main_arg3))
      ∧ r.2.mem ((c.tc : Thread nD τ).loc main_v28) = Prep.krow (m ((c.tc : Thread nD τ).loc main_arg0)) (m ((c.tc : Thread nD τ).loc main_arg2))
      ∧ r.2.mem ((c.tc : Thread nD τ).loc main_v33) = Prep.kmax (m ((c.tc : Thread nD τ).loc main_arg2))
      ∧ r.2.mem ((c.tc : Thread nD τ).loc main_v38) = Prep.kmax (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · funext i
    idx_vars i
    simp -implicitDefEqProofs only [StableHlo.TRef.toBuf, StableHlo.TRef.ofBuf, cast_cast, cast_eq]
    pointwise [Prep.kcode, Prep.code]
  · funext i
    idx_vars i
    simp -implicitDefEqProofs only [StableHlo.TRef.toBuf, StableHlo.TRef.ofBuf, cast_cast, cast_eq]
    pointwise [Prep.kcode, Prep.code]
  · funext i
    idx_vars i
    simp -implicitDefEqProofs only [StableHlo.TRef.toBuf, StableHlo.TRef.ofBuf, cast_cast, cast_eq]
    pointwise [Prep.krow, Prep.code]
  · funext i
    idx_vars i
    pointwise
    exact kmax_at _ _ _ _ _ _
  · funext i
    idx_vars i
    pointwise
    exact kmax_at _ _ _ _ _ _

end Cert.Proof.KvRef
end
-- ==== Proof.QVal.lean ====
/-
  The queries' preparation kernel: its results after its run are the claim's functions of its arguments.
-/
module

public import proofs.«01_k».proof.Proof.Prep
public import proofs.«01_k».proof.Proof.Gen.QPrepIdeal.Frame
public import Idealize.ShloMosaic.Lib.Pipeline.ValueKit

@[expose] public section

set_option maxRecDepth 16384

noncomputable section

namespace Cert.Proof.QPrepIdeal

open Cert.QPrepIdeal Cert.QPrepIdeal.Gen

open Idealize.ShloMosaic Idealize.ShloMosaic.TcCoe Idealize.SL.Sem
open Cert.Proof

variable (m : (ℓ : Loc nD τ sig) → Buf (Elt Ideal) ℓ) (ρ : Dev nD → PrngReg)

/-- The windows' block indices at a point. -/
theorem idx : ∀ t : Fin cfg0.N,
    win0_0.index t = ![0, 0] ∧ win0_1.index t = ![t.val / 64, t.val % 8, t.val / 8 % 8]
    ∧ win0_2.index t = ![t.val / 64, t.val / 8 % 8, 0, t.val % 8] ∧ win0_3.index t = ![t.val / 64, t.val / 8 % 8, 0, 0] :=
  (by decide +kernel : ∀ t : Fin grid0.N, _)

/-- A point's coordinates. -/
theorem crd : ∀ t : Fin cfg0.N, (grid0.coords t 0).val = t.val / 64 ∧ (grid0.coords t 1).val = t.val / 8 % 8 ∧ (grid0.coords t 2).val = t.val % 8 :=
  (by decide +kernel : ∀ t : Fin grid0.N, _)

theorem lt_N (t : Fin cfg0.N) : t.val < 128 := t.isLt

/-- The batch, the group and the rows of point `t`. -/
def pb (t : Fin cfg0.N) : Fin 2 := ⟨t.val / 64, by have := lt_N t; omega⟩
def pg (t : Fin cfg0.N) : Fin 8 := ⟨t.val / 8 % 8, by omega⟩
def pl (t : Fin cfg0.N) (a : Fin 1024) : Fin 8192 := ⟨1024 * (t.val % 8) + a.val, by omega⟩

/-- Channel `d` of the block's head `r`. -/
def cb (r : Fin 4) (d : Fin 160) : Fin 640 := ⟨r.val * 160 + d.val, by omega⟩

theorem blk0 (c : Dev nD) (t : Fin cfg0.N) : iblk m c 0 t = m ((c : Thread nD τ).loc main_arg0) := by blk_ext! [iblk, V, idx t]

theorem blk1 (c : Dev nD) (t : Fin cfg0.N) (a : Fin 1024) (r : Fin 4) (d : Fin 160) :
    iblk m c 1 t (ix3 0 a (cb r d)) = m ((c : Thread nD τ).loc main_arg1) (ix3 (pb t) (pl t a) (Prep.ch (Prep.hd (pg t) r) d)) := by
  blk_ext [iblk, V, idx t, pb, pg, pl, cb, Prep.ch, Prep.hd]

/-- A head's scale, as the body reads it. -/
def sq (i : grid0.Coords) (x : Vec Ideal S2x32 .f32) (r : Fin 4) : EReal :=
  View.ld x (Rect.unit (s := S2x32) (k0_off1 i (BitVec.ofNat 32 r.val)) S1x1.size (k0_off1_inb i r))
    (Shape.Idx.first (Nat.lt_of_lt_of_eq Nat.one_pos numel1_S1x1.symm))

theorem sq_eq (i : grid0.Coords) (x : Vec Ideal S2x32 .f32) (r : Fin 4) :
    sq i x r = x (ix2 (i 0) ⟨4 * (i 1).val + r.val, by have : (i 1).val < 8 := (i 1).isLt; omega⟩) := by
  show x _ = x _
  congr 1
  funext b
  apply Fin.ext
  have e : ((Rect.unit (s := S2x32) (k0_off1 i (BitVec.ofNat 32 r.val)) S1x1.size (k0_off1_inb i r)).emb
      (Shape.Idx.first (Nat.lt_of_lt_of_eq Nat.one_pos numel1_S1x1.symm)) b).val
    = (k0_off1 i (BitVec.ofNat 32 r.val)) b + 1 * ((Shape.Idx.first (Nat.lt_of_lt_of_eq Nat.one_pos numel1_S1x1.symm) : S1x1.Idx) b).val := rfl
  refine e.trans ?_
  rw [k0_off1_eq]
  fin_cases b <;> rfl

theorem sq_pt (t : Fin cfg0.N) (x : Vec Ideal S2x32 .f32) (r : Fin 4) : sq (grid0.coords t) x r = x (ix2 (pb t) (Prep.hd (pg t) r)) := by
  obtain ⟨h0, h1, _⟩ := crd t
  rw [sq_eq]
  refine congrArg x (congrArg₂ ix2 (Fin.ext h0) (Fin.ext ?_))
  show 4 * (grid0.coords t 1).val + r.val = t.val / 8 % 8 * 4 + r.val
  rw [h1]; omega

theorem c0 (x : Vec Ideal S1x1024x640 .bf16) (s : EReal) (d : Fin 160) (l : Fin 1024) :
    k0_pay7 (F := Ideal) x s (ix4 0 0 d l) = Prep.code (x (ix3 0 l (cb 0 d))) s := by
  pointwise [k0_pay7, k0_pay6, k0_pay5, Prep.code, cb]
  blk_ext

theorem c1 (x : Vec Ideal S1x1024x640 .bf16) (s : EReal) (d : Fin 160) (l : Fin 1024) :
    k0_pay11 (F := Ideal) (k0_pay10 x s) (FloatOps.ofBits FTy.f32 3286237184#32) (FloatOps.ofBits FTy.f32 1138753536#32) (ix4 0 0 d l)
      = Prep.code (x (ix3 0 l (cb 1 d))) s := by
  pointwise [k0_pay11, k0_pay10, k0_pay9, k0_pay5, Prep.code, cb]
  blk_ext

theorem c2 (x : Vec Ideal S1x1024x640 .bf16) (s : EReal) (d : Fin 160) (l : Fin 1024) :
    k0_pay14 (F := Ideal) (k0_pay5 x) s (ix4 0 0 d l) = Prep.code (x (ix3 0 l (cb 2 d))) s := by
  pointwise [k0_pay14, k0_pay13, k0_pay5, Prep.code, cb]
  blk_ext

theorem c3 (x : Vec Ideal S1x1024x640 .bf16) (s : EReal) (d : Fin 160) (l : Fin 1024) :
    k0_pay1 (F := Ideal) (k0_pay16 (k0_pay5 x)) s (ix4 0 0 d l) = Prep.code (x (ix3 0 l (cb 3 d))) s := by
  pointwise [k0_pay1, k0_pay16, k0_pay5, Prep.code, cb]
  blk_ext

/-- The largest absolute value of a block's head. -/
def bmax (x : Vec Ideal S1x1024x640 .bf16) (r : Fin 4) : EReal :=
  Finset.univ.sup fun l : Fin 1024 => Finset.univ.sup fun d : Fin 160 => FloatOps.absf (F := Ideal) (φ := .f32) (x (ix3 0 l (cb r d)))

theorem sup_eq {α : Type} [Fintype α] {β : Type} [Fintype β] (f g : α → β → EReal) (h : ∀ a b, f a b = g a b) :
    (Finset.univ.sup fun a => Finset.univ.sup fun b => f a b) = Finset.univ.sup fun a => Finset.univ.sup fun b => g a b :=
  Finset.sup_congr rfl fun a _ => Finset.sup_congr rfl fun b _ => h a b

theorem m0 (x : Vec Ideal S1x1024x640 .bf16) (l : Fin 128) : k0_pay8 (F := Ideal) x (ix2 0 l) = bmax x 0 := by
  pointwise [k0_pay8, k0_pay6, k0_pay5]
  rw [Attn.ninf]
  refine sup_eq (α := Fin 1024) (β := Fin 160) _ _ fun a d => congrArg _ ?_
  blk_ext [cb]

theorem m1 (x : Vec Ideal S1x1024x640 .bf16) (l : Fin 128) : k0_pay12 (F := Ideal) (k0_pay9 x) (ix2 0 l) = bmax x 1 := by
  pointwise [k0_pay12, k0_pay9, k0_pay5]
  rw [Attn.ninf]
  refine sup_eq (α := Fin 1024) (β := Fin 160) _ _ fun a d => congrArg _ ?_
  blk_ext [cb]

theorem m2 (x : Vec Ideal S1x1024x640 .bf16) (l : Fin 128) : k0_pay15 (F := Ideal) (k0_pay5 x) (ix2 0 l) = bmax x 2 := by
  pointwise [k0_pay15, k0_pay13, k0_pay5]
  rw [Attn.ninf]
  refine sup_eq (α := Fin 1024) (β := Fin 160) _ _ fun a d => congrArg _ ?_
  blk_ext [cb]

theorem m3 (x : Vec Ideal S1x1024x640 .bf16) (a b c : FVec Ideal S1x128 .f32) (l : Fin 128) :
    k0_pay2 (F := Ideal) a b c (k0_pay16 (k0_pay5 x)) (ix2 3 l) = bmax x 3 := by
  pointwise [k0_pay2, k0_pay16, k0_pay5]
  rw [Attn.ninf]
  refine sup_eq (α := Fin 1024) (β := Fin 160) _ _ fun a d => congrArg _ ?_
  blk_ext [cb]

/-- The four heads' maxima in four rows. -/
theorem rows (x : Vec Ideal S1x1024x640 .bf16) (r : Fin 4) (l : Fin 128) :
    k0_pay2 (F := Ideal) (k0_pay8 x) (k0_pay12 (k0_pay9 x)) (k0_pay15 (k0_pay5 x)) (k0_pay16 (k0_pay5 x)) (ix2 r l) = bmax x r := by
  fin_cases r
  · refine Eq.trans ?_ (m0 x l)
    pointwise [k0_pay2]
  · refine Eq.trans ?_ (m1 x l)
    pointwise [k0_pay2]
  · refine Eq.trans ?_ (m2 x l)
    pointwise [k0_pay2]
  · exact m3 x _ _ _ l

theorem p3 (a b c : FVec Ideal S1x128 .f32) (d : FVec Ideal S160x1024 .f32) (r : Fin 4) (l : Fin 128) :
    k0_pay3 (F := Ideal) a b c d (ix4 0 0 r l) = k0_pay2 (F := Ideal) a b c d (ix2 r l) := by
  pointwise [k0_pay3]

theorem p4 (a b c : FVec Ideal S1x128 .f32) (d : FVec Ideal S160x1024 .f32) (o : Vec Ideal S1x1x4x128 .f32) (r : Fin 4) (l : Fin 128) :
    k0_pay4 (F := Ideal) a b c d o (ix4 0 0 r l) = max (o (ix4 0 0 r l)) (k0_pay2 (F := Ideal) a b c d (ix2 r l)) := by
  pointwise [k0_pay4]

/-! ### The body's outputs at a point -/

theorem tile (x : S1x1x160x1024.Idx) (d : Fin 160) (l : Fin 1024) (h2 : d.val = (x 2).val) (h3 : l.val = (x 3).val) : x = ix4 0 0 d l := by
  have hx0 : (x 0).val < 1 := (x 0).isLt
  have hx1 : (x 1).val < 1 := (x 1).isLt
  funext a
  apply Fin.ext
  fin_cases a
  · show (x 0).val = 0
    omega
  · show (x 1).val = 0
    omega
  · exact h2.symm
  · exact h3.symm

theorem row (r k : Fin 4) (x : S1x1x160x1024.Idx) (h : r.val = k.val + (x 1).val) : r = k := by
  have hx1 : (x 1).val < 1 := (x 1).isLt
  exact Fin.ext (by omega)

theorem o2 (c : Dev nD) (t : Fin cfg0.N) (r : Fin 4) (d : Fin 160) (l : Fin 1024) :
    (outsAt0 m c t.val t.isLt).1 (ix4 0 r d l) = Prep.code (iblk m c 1 t (ix3 0 l (cb r d))) (sq (grid0.coords t) (iblk m c 0 t) r) := by
  by_cases hz : t.val % 8 = 0
  · rw [outsAt0_A m c t hz (by omega)]; frame_out
    canon_tiles x h
    · obtain rfl := row r 3 x h1
      rw [tile x d l h2 h3]
      exact c3 _ _ d l
    · obtain rfl := row r 2 x h1
      rw [tile x d l h2 h3]
      exact c2 _ _ d l
    · obtain rfl := row r 1 x h1
      rw [tile x d l h2 h3]
      exact c1 _ _ d l
    · obtain rfl := row r 0 x (h1.trans (Nat.zero_add _).symm)
      rw [tile x d l h2 h3]
      exact c0 _ _ d l
  · rw [outsAt0_B m c t hz (by omega)]; frame_out
    canon_tiles x h
    · obtain rfl := row r 3 x h1
      rw [tile x d l h2 h3]
      exact c3 _ _ d l
    · obtain rfl := row r 2 x h1
      rw [tile x d l h2 h3]
      exact c2 _ _ d l
    · obtain rfl := row r 1 x h1
      rw [tile x d l h2 h3]
      exact c1 _ _ d l
    · obtain rfl := row r 0 x (h1.trans (Nat.zero_add _).symm)
      rw [tile x d l h2 h3]
      exact c0 _ _ d l

theorem o3_first (c : Dev nD) (t : Fin cfg0.N) (h : t.val % 8 = 0) (r : Fin 4) (l : Fin 128) :
    (outsAt0 m c t.val t.isLt).2 (ix4 0 0 r l) = bmax (iblk m c 1 t) r := by
  rw [outsAt0_A m c t h (by omega)]; frame_out
  exact (p3 _ _ _ _ r l).trans (rows _ r l)

theorem o3_rest (c : Dev nD) (t : Fin cfg0.N) (h : ¬t.val % 8 = 0) (r : Fin 4) (l : Fin 128) :
    (outsAt0 m c t.val t.isLt).2 (ix4 0 0 r l)
      = max ((outsAt0 m c (t.val - 1) (Nat.lt_of_le_of_lt (Nat.sub_le _ _) t.isLt)).2 (ix4 0 0 r l)) (bmax (iblk m c 1 t) r) := by
  rw [outsAt0_B m c t h (by omega)]; frame_out
  exact (p4 _ _ _ _ _ r l).trans (congrArg _ (rows _ r l))

/-! ### The running maxima -/

/-- A head's values by row and channel. -/
def hv (x : Vec Ideal S2x8192x5120 .bf16) (b : Fin 2) (g : Fin 8) (r : Fin 4) (s : Fin 8192) (d : Fin 160) : EReal :=
  x (ix3 b s (Prep.ch (Prep.hd g r) d))

theorem bmax_step (c : Dev nD) (t : Fin cfg0.N) (r : Fin 4) (n : ℕ) (hn : t.val % 8 = n) :
    max (Prep.upto (hv (m ((c : Thread nD τ).loc main_arg1)) (pb t) (pg t) r) n) (bmax (iblk m c 1 t) r)
      = Prep.upto (hv (m ((c : Thread nD τ).loc main_arg1)) (pb t) (pg t) r) (n + 1) := by
  subst hn
  exact Prep.upto_succ _ _ (by omega) (fun l d => iblk m c 1 t (ix3 0 l (cb r d))) fun l d => blk1 m c t l r d

/-- The running maxima start over at each group's first block. -/
theorem o3_eq (c : Dev nD) (n : ℕ) (hn : n < cfg0.N) (r : Fin 4) (l : Fin 128) : (outsAt0 m c n hn).2 (ix4 0 0 r l)
    = Prep.upto (hv (m ((c : Thread nD τ).loc main_arg1)) (pb ⟨n, hn⟩) (pg ⟨n, hn⟩) r) (n % 8 + 1) := by
  induction n with
  | zero =>
    rw [show (outsAt0 m c 0 hn).2 (ix4 0 0 r l) = _ from o3_first m c ⟨0, hn⟩ rfl r l, ← bmax_step m c ⟨0, hn⟩ r (0 % 8) rfl]
    exact (bot_sup_eq _).symm
  | succ n ih =>
    by_cases h0 : (n + 1) % 8 = 0
    · rw [show (outsAt0 m c (n + 1) hn).2 (ix4 0 0 r l) = _ from o3_first m c ⟨n + 1, hn⟩ h0 r l, ← bmax_step m c ⟨n + 1, hn⟩ r _ rfl]
      simp only [h0]
      exact (bot_sup_eq _).symm
    · have hn' : n < cfg0.N := Nat.lt_of_succ_lt hn
      have hN : n + 1 < 128 := hn
      rw [show (outsAt0 m c (n + 1) hn).2 (ix4 0 0 r l) = _ from o3_rest m c ⟨n + 1, hn⟩ h0 r l,
        show (outsAt0 m c ((⟨n + 1, hn⟩ : Fin cfg0.N).val - 1) _).2 (ix4 0 0 r l) = _ from ih hn']
      have eb : pb ⟨n, hn'⟩ = pb ⟨n + 1, hn⟩ := Fin.ext (by show n / 64 = (n + 1) / 64; omega)
      have eg : pg ⟨n, hn'⟩ = pg ⟨n + 1, hn⟩ := Fin.ext (by show n / 8 % 8 = (n + 1) / 8 % 8; omega)
      rw [eb, eg]
      have h1 : n % 8 + 1 = (n + 1) % 8 := by omega
      rw [h1]
      exact bmax_step m c _ r _ rfl

/-! ### The result arrays -/

theorem final2 (c : Dev nD) : (dats m 0 c).arrAt 2 cfg0.N
    = Prep.qcode (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have e : ((View.whole main_v0_0).slice (win0_2.rect t)).emb (ix4 y0 y1 y2 y3) = ix4 (pb t) (Prep.hd (pg t) y1) y2 (pl t y3) := by
    blk_ext [idx t, pb, pg, pl, Prep.hd]
  rw [e]
  have y00 : y0 = 0 := by omega
  subst y00
  rw [o2, blk1, sq_pt, blk0]
  rfl

theorem final3 (c : Dev nD) : (dats m 0 c).arrAt 3 cfg0.N = Prep.qmax (m ((c : Thread nD τ).loc main_arg1)) := by
  refine (dats m 0 c).arrAt_eq_of_covers 3 _ (by decide +kernel) fun t hf y => ?_
  blk_simp
  rw [after0_3]
  idx_vars y
  have e : ((View.whole main_v0_1).slice (win0_3.rect t)).emb (ix4 y0 y1 y2 y3) = ix4 (pb t) (pg t) y2 y3 := by
    blk_ext [idx t, pb, pg]
  rw [e]
  have hf' : t.val % 8 = 7 := (flush0_3 t).mp hf
  have y00 : y0 = 0 := by omega
  have y10 : y1 = 0 := by omega
  subst y00 y10
  rw [o3_eq, hf', Prep.upto_all]
  rfl

/-- The run with its results. -/
theorem run_value : θ_run defs (onTc (τ := τ) (main (F := Ideal))) ⟨m, fun _ => 0, ρ⟩ (fun r => ∀ c : Dev nD,
    r.2.mem ((c.tc : Thread nD τ).loc main_v0_0) = Prep.qcode (m ((c : Thread nD τ).loc main_arg0)) (m ((c : Thread nD τ).loc main_arg1))
    ∧ r.2.mem ((c.tc : Thread nD τ).loc main_v0_1) = Prep.qmax (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ?_) (run_main (F := Ideal) m ρ)
  exact ⟨((h c).1 2).trans (final2 m c), ((h c).1 3).trans (final3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩

end Cert.Proof.QPrepIdeal
end
-- ==== Proof.QRef.lean ====
/-
  The reference of the queries' preparation: its results after its run are the claim's functions of its arguments.
-/
module

public import proofs.«01_k».proof.Proof.Prep
public import proofs.«01_k».proof.Proof.Gen.QRefIdeal
public import Idealize.ShloMosaic.Lib.Claim
public import Idealize.ShloMosaic.Lib.StableHlo.Run

@[expose] public section

set_option maxRecDepth 16384

noncomputable section

namespace Cert.Proof.QRef

open Idealize.ShloMosaic Idealize.ShloMosaic.TcCoe Idealize.SL.Sem
open Cert.QRefIdeal Cert.QRefIdeal.Gen
open Cert.Proof

/-- The maximum over the rows and channels of a head. -/
theorem drop_iff (h : S2x8192x32x160.ReducesTo [1, 3] S2x32) (b : Fin 2) (g : Fin 32) (i : S2x8192x32x160.Idx) :
    h.drop i = ix2 b g ↔ i 0 = b ∧ i 2 = g := by
  have e : h.drop i = ix2 (i 0) (i 2) := by funext a; fin_cases a <;> rfl
  rw [e]
  exact ix2_inj ..

theorem qmax_at (h : S2x8192x32x160.ReducesTo [1, 3] S2x32) (x : Vec Ideal S2x8192x5120 .bf16) (f : S2x8192x32x160.Idx → EReal)
    (hf : ∀ i, f i = FloatOps.absf (F := Ideal) (φ := .f32) (x (ix3 (i 0) (i 1) (Prep.ch (i 2) (i 3)))))
    (b : Fin 2) (g : Fin 8) (r : Fin 4) (l : Fin 128) (k : Fin 32) (hk : k = Prep.hd g r) :
    Finset.fold max (Ideal.ofBits FTy.f32 4286578688#32) f {i | h.drop i = ix2 b k} = Prep.qmax x (ix4 b g r l) := by
  subst hk
  rw [Attn.ninf, Attn.fold_max, funext hf]
  exact Prep.sup_slab _ b _ (drop_iff h b _) _

/-- The run with its results. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = Prep.qcode (m ((c.tc : Thread nD τ).loc main_arg0)) (m ((c.tc : Thread nD τ).loc main_arg1))
      ∧ r.2.mem ((c.tc : Thread nD τ).loc main_v14) = Prep.qmax (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · funext i
    idx_vars i
    simp -implicitDefEqProofs only [StableHlo.TRef.toBuf, StableHlo.TRef.ofBuf, cast_cast, cast_eq]
    pointwise [Prep.qcode, Prep.code]
    rfl
  · funext i
    idx_vars i
    pointwise
    exact qmax_at _ _ _ (fun i => rfl) _ _ _ _ _ rfl

end Cert.Proof.QRef
end
-- ==== Proof.PrepAlg.lean ====
/-
  The claims of the two preparations: from equal arguments the kernel and its reference end with the same results.
-/
module

public import proofs.«01_k».proof.Defs
public import proofs.«01_k».proof.Proof.KvVal
public import proofs.«01_k».proof.Proof.KvRef
public import proofs.«01_k».proof.Proof.QVal
public import proofs.«01_k».proof.Proof.QRef
public import Idealize.ShloMosaic.Lib.Quiescent

@[expose] public section

set_option maxRecDepth 16384

noncomputable section

namespace Cert.Proof

open Idealize.ShloMosaic Idealize.SL.Sem Idealize.ShloMosaic.TcCoe

theorem q_algebraic : Cert.algebraic_QPrepIdeal_QRefIdeal (hQPrepIdeal := Cert.QPrepIdeal.Gen.facts) (hQRefIdeal := Cert.QRefIdeal.Gen.facts) := by
  intro m g m' g' hpre hargs
  refine ⟨_, _, QPrepIdeal.run_value m g, ?_⟩
  refine (θ_run (Cert.QRefIdeal.defs (F := Ideal)) _ _).mono (fun r h c => ?_) (QRef.run_value m' g')
  obtain ⟨e0, e1, hr⟩ := h c
  obtain ⟨a0, a1⟩ := hargs c
  refine ⟨e0.trans ?_, e1.trans ?_, hr⟩
  · rw [a0, a1]
  · rw [a1]

theorem kv_algebraic : Cert.algebraic_KvPrepIdeal_KvRefIdeal (hKvPrepIdeal := Cert.KvPrepIdeal.Gen.facts)
    (hKvRefIdeal := Cert.KvRefIdeal.Gen.facts) := by
  intro m g m' g' hpre hargs
  refine ⟨_, _, _, _, _, KvPrepIdeal.run_value m g, ?_⟩
  refine (θ_run (Cert.KvRefIdeal.defs (F := Ideal)) _ _).mono (fun r h c => ?_) (KvRef.run_value m' g')
  obtain ⟨e0, e1, e2, e3, e4, hr⟩ := h c
  obtain ⟨a0, a1, a2, a3⟩ := hargs c
  refine ⟨e0.trans ?_, e1.trans ?_, e2.trans ?_, e3.trans ?_, e4.trans ?_, hr⟩
  · rw [a0, a2]
  · rw [a1, a3]
  · rw [a0, a2]
  · rw [a2]
  · rw [a3]

theorem q_ref_frame : Cert.quiescent_QRefIdeal (hQRefIdeal := Cert.QRefIdeal.Gen.facts) := fun m g _ =>
  (θ_run (Cert.QRefIdeal.defs (F := Ideal)) _ _).mono
    (fun r h => ⟨fun c => (h c).2.2, sem_eq_zero_of_no_sems (by decide) r.2⟩) (QRef.run_value m g)

theorem kv_ref_frame : Cert.quiescent_KvRefIdeal (hKvRefIdeal := Cert.KvRefIdeal.Gen.facts) := fun m g _ =>
  (θ_run (Cert.KvRefIdeal.defs (F := Ideal)) _ _).mono
    (fun r h => ⟨fun c => (h c).2.2.2.2.2, sem_eq_zero_of_no_sems (by decide) r.2⟩) (KvRef.run_value m g)

end Cert.Proof
end
-- ==== Proof.lean ====
/-
  The proof of `Cert.Claim`.
-/
module

public import proofs.«01_k».proof.Defs
public import proofs.«01_k».proof.Proof.KFrame
public import proofs.«01_k».proof.Proof.KIFrame
public import proofs.«01_k».proof.Proof.Alg
public import proofs.«01_k».proof.Proof.PrepAlg
public import proofs.«01_k».proof.Proof.Gen.ReferenceIdeal.Frame
public import proofs.«01_k».proof.Proof.Gen.QPrep.Frame
public import proofs.«01_k».proof.Proof.Gen.QPrepIdeal.Frame
public import proofs.«01_k».proof.Proof.Gen.KvPrep.Frame
public import proofs.«01_k».proof.Proof.Gen.KvPrepIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.QPrep.Gen.facts, Cert.QPrepIdeal.Gen.facts, Cert.QRefIdeal.Gen.facts,
  Cert.KvPrep.Gen.facts, Cert.KvPrepIdeal.Gen.facts, Cert.KvRefIdeal.Gen.facts, pre_facts,
  fun m ρ _ => Cert.Proof.Kernel.frame m ρ, fun m ρ _ => Cert.Proof.KernelIdeal.frame m ρ, fun m ρ _ => Cert.Proof.KernelIdeal.frame m ρ,
  fun m ρ _ => Cert.ReferenceIdeal.Gen.frame m ρ, fun m ρ _ => Cert.ReferenceIdeal.Gen.frame m ρ,
  fun m ρ _ => Cert.QPrep.Gen.frame m ρ, fun m ρ _ => Cert.QPrepIdeal.Gen.frame m ρ, q_ref_frame,
  fun m ρ _ => Cert.KvPrep.Gen.frame m ρ, fun m ρ _ => Cert.KvPrepIdeal.Gen.frame m ρ, kv_ref_frame,
  ⟨IdealRules.named_const.statement Cert.KernelIdeal.κ "log2e" .f32 0x3FB8AA3B#32 _ rfl,
    IdealRules.named_const.statement Cert.KernelIdeal.κ "masked" .f32 0xFF61B1E6#32 _ rfl⟩,
  algebraic, trivial, q_algebraic, trivial, kv_algebraic⟩

end Cert.Proof
end
